-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x1024 : Shape := ⟨2, ![8192, 1024]⟩
abbrev S16x1024 : Shape := ⟨2, ![16, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S8192x1024 .f32) (main_arg1 : FVec F S16x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  main_v8
-- ==== Kernel.lean ====
abbrev S8192x1024 : Shape := ⟨2, ![8192, 1024]⟩
abbrev S16x1024 : Shape := ⟨2, ![16, 1024]⟩
abbrev S1x1 : Shape := ⟨2, ![1, 1]⟩
abbrev S_ : Shape := ⟨0, ![]⟩
abbrev S2048x1024 : Shape := ⟨2, ![2048, 1024]⟩
abbrev S8x8192 : Shape := ⟨2, ![8, 8192]⟩
abbrev S16x1 : Shape := ⟨2, ![16, 1]⟩
abbrev S16x2048 : Shape := ⟨2, ![16, 2048]⟩
abbrev S4 : Shape := ⟨1, ![4]⟩
abbrev S1 : Shape := ⟨1, ![1]⟩
abbrev S2048 : Shape := ⟨1, ![2048]⟩
abbrev S1x2048 : Shape := ⟨2, ![1, 2048]⟩
abbrev S32x2048 : Shape := ⟨2, ![32, 2048]⟩
abbrev S1024x1024 : Shape := ⟨2, ![1024, 1024]⟩
abbrev S32x1024 : Shape := ⟨2, ![32, 1024]⟩
abbrev S32x1 : Shape := ⟨2, ![32, 1]⟩
abbrev S8x2048 : Shape := ⟨2, ![8, 2048]⟩
abbrev S16 : Shape := ⟨1, ![16]⟩
abbrev S1x16x1 : Shape := ⟨3, ![1, 16, 1]⟩
abbrev S1x1x1 : Shape := ⟨3, ![1, 1, 1]⟩
abbrev S2048x1 : Shape := ⟨2, ![2048, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S8192x1024, .f32⟩
  | .hbm, ⟨3, _⟩ => ⟨S1x1, .f32⟩
  | .hbm, ⟨4, _⟩ => ⟨S_, .f32⟩
  | .local _ .vmem, ⟨0, _⟩ => ⟨S16x1024, .f32⟩
  | .local _ .vmem, ⟨1, _⟩ => ⟨S2048x1024, .f32⟩
  | .local _ .vmem, ⟨2, _⟩ => ⟨S2048x1024, .f32⟩
  | .local _ .vmem, ⟨3, _⟩ => ⟨S1x1, .f32⟩
  | .local _ .vmem, ⟨4, _⟩ => ⟨S8192x1024, .f32⟩
  | .local _ .vmem, ⟨5, _⟩ => ⟨S8x8192, .f32⟩
  | .local _ .vmem, ⟨6, _⟩ => ⟨S16x1, .f32⟩
  | .local _ .vmem, ⟨7, _⟩ => ⟨S16x1, .f32⟩
  | .local _ .vmem, ⟨8, _⟩ => ⟨S16x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_call0_v0_1 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_off1 (i : grid0.Coords) : Fin 1 → Nat :=
  let arg0 : BitVec 32 := BitVec.ofNat 32 (i 0).val
  ![arg0.toNat]
def k0_off2 (i : grid0.Coords) : Fin 2 → Nat :=
  let arg0 : BitVec 32 := BitVec.ofNat 32 (i 0).val
  let c2048_i32_4 : BitVec 32 := 2048#32
  let v10 : BitVec 32 := Scalar.muli arg0 c2048_i32_4
  let c0_i32_5 : BitVec 32 := 0#32
  ![v10.toNat, 0]
def k0_off3 (i : grid0.Coords) : Fin 2 → Nat :=
  let arg0 : BitVec 32 := BitVec.ofNat 32 (i 0).val
  let c2048_i32_7 : BitVec 32 := 2048#32
  let v15 : BitVec 32 := Scalar.muli arg0 c2048_i32_7
  let v16 : Index := Scalar.indexCast v15
  let c0 : Index := 0#32
  ![v16.toNat, 0]
def k0_off4 (i : grid0.Coords) : Fin 2 → Nat :=
  let c0_41 : Index := 0#32
  let arg0 : BitVec 32 := BitVec.ofNat 32 (i 0).val
  let c2048_i32_40 : BitVec 32 := 2048#32
  let v144 : BitVec 32 := Scalar.muli arg0 c2048_i32_40
  let v145 : Index := Scalar.indexCast v144
  ![0, v145.toNat]
def k0_cond4 (i : grid0.Coords) : BitVec 1 :=
  let arg0 : BitVec 32 := BitVec.ofNat 32 (i 0).val
  let c4_i32_2 : BitVec 32 := 4#32
  let v6 : BitVec 1 := Scalar.cmpi .sge arg0 c4_i32_2
  let v7 : BitVec 32 := Scalar.extui v6
  let c0_i32_3 : BitVec 32 := 0#32
  let v8 : BitVec 1 := Scalar.cmpi .ne v7 c0_i32_3
  v8

def k0_off5 (i : grid0.Coords) : Fin 2 → Nat :=
  let c0 : Index := 0#32
  let arg0 : BitVec 32 := BitVec.ofNat 32 (i 0).val
  let c4_i32_4 : BitVec 32 := 4#32
  let v9 : BitVec 32 := Scalar.subi arg0 c4_i32_4
  let c2048_i32 : BitVec 32 := 2048#32
  let v10 : BitVec 32 := Scalar.muli v9 c2048_i32
  let v11 : Index := Scalar.indexCast v10
  ![0, v11.toNat]
def k0_off6 (i : grid0.Coords) : Fin 2 → Nat :=
  let arg0 : BitVec 32 := BitVec.ofNat 32 (i 0).val
  let c4_i32_4 : BitVec 32 := 4#32
  let v9 : BitVec 32 := Scalar.subi arg0 c4_i32_4
  let c2048_i32_8 : BitVec 32 := 2048#32
  let v36 : BitVec 32 := Scalar.muli v9 c2048_i32_8
  let v37 : Index := Scalar.indexCast v36
  let c0_9 : Index := 0#32
  ![v37.toNat, 0]
def k0_cond3 (i : grid0.Coords) : BitVec 1 :=
  let arg0 : BitVec 32 := BitVec.ofNat 32 (i 0).val
  let c3_i32_42 : BitVec 32 := 3#32
  let v149 : BitVec 1 := Scalar.cmpi .eq arg0 c3_i32_42
  let v150 : BitVec 32 := Scalar.extui v149
  let c0_i32_43 : BitVec 32 := 0#32
  let v151 : BitVec 1 := Scalar.cmpi .ne v150 c0_i32_43
  v151

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8192x1024 : Shape := ⟨2, ![8192, 1024]⟩
abbrev S16x1024 : Shape := ⟨2, ![16, 1024]⟩
abbrev S1024x16 : Shape := ⟨2, ![1024, 16]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S8192x2 : Shape := ⟨2, ![8192, 2]⟩
abbrev S1x16 : Shape := ⟨2, ![1, 16]⟩
abbrev S16 : Shape := ⟨1, ![16]⟩
abbrev S16384x1024 : Shape := ⟨2, ![16384, 1024]⟩
abbrev S1x16x1024x1024 : Shape := ⟨4, ![1, 16, 1024, 1024]⟩
abbrev S1 : Shape := ⟨1, ![1]⟩
abbrev S1x1 : Shape := ⟨2, ![1, 1]⟩

abbrev nBuf : Space → Nat
  | .hbm => 248
  | .vmem => 0
  | .smem => 0
  | _ => 0

abbrev hbmTy0_0 (i : Nat) : BufTy := match i % 128 with
  | 0 => ⟨S8192x1024, .f32⟩
  | 1 => ⟨S16x1024, .f32⟩
  | 2 => ⟨S1024x16, .f32⟩
  | 3 => ⟨S8192x16, .f32⟩
  | 4 => ⟨S_, .f32⟩
  | 5 => ⟨S8192, .f32⟩
  | 6 => ⟨S_, .f32⟩
  | 7 => ⟨S8192, .f32⟩
  | 8 => ⟨S8192, .f32⟩
  | 9 => ⟨S8192x1, .f32⟩
  | 10 => ⟨S8192x16, .f32⟩
  | 11 => ⟨S8192x16, .f32⟩
  | 12 => ⟨S8192x16, .f32⟩
  | 13 => ⟨S_, .f32⟩
  | 14 => ⟨S8192, .f32⟩
  | 15 => ⟨S8192x1, .f32⟩
  | 16 => ⟨S8192x16, .f32⟩
  | 17 => ⟨S8192x16, .f32⟩
  | 18 => ⟨S8192x2, .f32⟩
  | 19 => ⟨S8192x2, .i32⟩
  | 20 => ⟨S8192x1, .i32⟩
  | 21 => ⟨S8192, .i32⟩
  | 22 => ⟨S8192x1, .i32⟩
  | 23 => ⟨S8192, .i32⟩
  | 24 => ⟨S8192x1, .i32⟩
  | 25 => ⟨S1x16, .i32⟩
  | 26 => ⟨S8192x16, .i32⟩
  | 27 => ⟨S8192x16, .i32⟩
  | 28 => ⟨S8192x16, .i1⟩
  | 29 => ⟨S8192x16, .f32⟩
  | 30 => ⟨S8192x1, .i32⟩
  | 31 => ⟨S1x16, .i32⟩
  | 32 => ⟨S8192x16, .i32⟩
  | 33 => ⟨S8192x16, .i32⟩
  | 34 => ⟨S8192x16, .i1⟩
  | 35 => ⟨S8192x16, .f32⟩
  | 36 => ⟨S8192x16, .f32⟩
  | 37 => ⟨S_, .f32⟩
  | 38 => ⟨S8192, .f32⟩
  | 39 => ⟨S8192x16, .f32⟩
  | 40 => ⟨S_, .f32⟩
  | 41 => ⟨S8192, .f32⟩
  | 42 => ⟨S_, .f32⟩
  | 43 => ⟨S16, .f32⟩
  | 44 => ⟨S_, .f32⟩
  | 45 => ⟨S16, .f32⟩
  | 46 => ⟨S16, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S8192x16, .f32⟩
  | 54 => ⟨S_, .f32⟩
  | 55 => ⟨S8192x16, .f32⟩
  | 56 => ⟨S8192x16, .f32⟩
  | 57 => ⟨S8192x16, .f32⟩
  | 58 => ⟨S_, .f32⟩
  | 59 => ⟨S8192, .f32⟩
  | 60 => ⟨S8192, .i32⟩
  | 61 => ⟨S_, .f32⟩
  | 62 => ⟨S16, .f32⟩
  | 63 => ⟨S1x16, .f32⟩
  | 64 => ⟨S_, .f32⟩
  | 65 => ⟨S_, .f32⟩
  | 66 => ⟨S8192x16, .f32⟩
  | 67 => ⟨S_, .f32⟩
  | 68 => ⟨S8192x16, .f32⟩
  | 69 => ⟨S8192x16, .f32⟩
  | 70 => ⟨S8192x16, .f32⟩
  | 71 => ⟨S8192x16, .f32⟩
  | 72 => ⟨S8192x16, .f32⟩
  | 73 => ⟨S_, .f32⟩
  | 74 => ⟨S8192, .f32⟩
  | 75 => ⟨S8192, .i32⟩
  | 76 => ⟨S8192, .f32⟩
  | 77 => ⟨S_, .f32⟩
  | 78 => ⟨S8192, .f32⟩
  | 79 => ⟨S8192, .f32⟩
  | 80 => ⟨S8192, .f32⟩
  | 81 => ⟨S8192, .f32⟩
  | 82 => ⟨S_, .f32⟩
  | 83 => ⟨S16384x1024, .f32⟩
  | 84 => ⟨S_, .i32⟩
  | 85 => ⟨S8192, .i32⟩
  | 86 => ⟨S8192, .i1⟩
  | 87 => ⟨S_, .i32⟩
  | 88 => ⟨S8192, .i32⟩
  | 89 => ⟨S8192, .i1⟩
  | 90 => ⟨S8192, .i1⟩
  | 91 => ⟨S8192, .f32⟩
  | 92 => ⟨S_, .i32⟩
  | 93 => ⟨S8192, .i32⟩
  | 94 => ⟨S8192, .i32⟩
  | 95 => ⟨S8192, .i32⟩
  | 96 => ⟨S_, .i32⟩
  | 97 => ⟨S_, .i32⟩
  | 98 => ⟨S_, .i32⟩
  | 99 => ⟨S8192, .i32⟩
  | 100 => ⟨S8192, .i32⟩
  | 101 => ⟨S_, .i32⟩
  | 102 => ⟨S8192, .i32⟩
  | 103 => ⟨S8192, .i32⟩
  | 104 => ⟨S8192x1, .f32⟩
  | 105 => ⟨S8192x1024, .f32⟩
  | 106 => ⟨S8192x1024, .f32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S8192x1, .i32⟩
  | 115 => ⟨S16384x1024, .f32⟩
  | 116 => ⟨S_, .i32⟩
  | 117 => ⟨S8192, .i32⟩
  | 118 => ⟨S8192, .i1⟩
  | 119 => ⟨S_, .i32⟩
  | 120 => ⟨S8192, .i32⟩
  | 121 => ⟨S8192, .i1⟩
  | 122 => ⟨S8192, .i1⟩
  | 123 => ⟨S8192, .f32⟩
  | 124 => ⟨S_, .i32⟩
  | 125 => ⟨S8192, .i32⟩
  | 126 => ⟨S8192, .i32⟩
  | 127 => ⟨S8192, .i32⟩
  | _ => ⟨S8192x1024, .f32⟩

abbrev hbmTy0_1 (i : Nat) : BufTy := match i % 128 with
  | 0 => ⟨S_, .i32⟩
  | 1 => ⟨S_, .i32⟩
  | 2 => ⟨S_, .i32⟩
  | 3 => ⟨S8192, .i32⟩
  | 4 => ⟨S8192, .i32⟩
  | 5 => ⟨S_, .i32⟩
  | 6 => ⟨S8192, .i32⟩
  | 7 => ⟨S8192, .i32⟩
  | 8 => ⟨S8192x1, .f32⟩
  | 9 => ⟨S8192x1024, .f32⟩
  | 10 => ⟨S8192x1024, .f32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S8192x1, .i32⟩
  | 19 => ⟨S16384x1024, .f32⟩
  | 20 => ⟨S1x16x1024x1024, .f32⟩
  | 21 => ⟨S16384x1024, .f32⟩
  | 22 => ⟨S_, .f32⟩
  | 23 => ⟨S8192x1024, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i1⟩
  | 30 => ⟨S8192, .i1⟩
  | 31 => ⟨S8192, .f32⟩
  | 32 => ⟨S_, .i32⟩
  | 33 => ⟨S8192, .i32⟩
  | 34 => ⟨S8192, .i32⟩
  | 35 => ⟨S8192, .i32⟩
  | 36 => ⟨S_, .i32⟩
  | 37 => ⟨S_, .i32⟩
  | 38 => ⟨S_, .i32⟩
  | 39 => ⟨S8192, .i32⟩
  | 40 => ⟨S8192, .i32⟩
  | 41 => ⟨S_, .i32⟩
  | 42 => ⟨S8192, .i32⟩
  | 43 => ⟨S8192, .i32⟩
  | 44 => ⟨S_, .i32⟩
  | 45 => ⟨S8192, .i32⟩
  | 46 => ⟨S8192, .i1⟩
  | 47 => ⟨S_, .i32⟩
  | 48 => ⟨S8192, .i32⟩
  | 49 => ⟨S8192, .i32⟩
  | 50 => ⟨S8192, .i32⟩
  | 51 => ⟨S8192x1, .i32⟩
  | 52 => ⟨S1, .i32⟩
  | 53 => ⟨S_, .i32⟩
  | 54 => ⟨S8192x1, .i32⟩
  | 55 => ⟨S8192x1, .i1⟩
  | 56 => ⟨S1x1, .i32⟩
  | 57 => ⟨S8192x1, .i32⟩
  | 58 => ⟨S8192x1, .i1⟩
  | 59 => ⟨S8192x1, .i1⟩
  | 60 => ⟨S_, .i1⟩
  | 61 => ⟨S8192, .i1⟩
  | 62 => ⟨S8192x1024, .f32⟩
  | 63 => ⟨S8192x1024, .i1⟩
  | 64 => ⟨S_, .f32⟩
  | 65 => ⟨S8192x1024, .f32⟩
  | 66 => ⟨S8192x1024, .f32⟩
  | 67 => ⟨S8192, .f32⟩
  | 68 => ⟨S8192x1, .f32⟩
  | 69 => ⟨S8192x1024, .f32⟩
  | 70 => ⟨S8192x1024, .f32⟩
  | 71 => ⟨S8192x1024, .f32⟩
  | 72 => ⟨S_, .i32⟩
  | 73 => ⟨S8192, .i32⟩
  | 74 => ⟨S8192, .i1⟩
  | 75 => ⟨S_, .i32⟩
  | 76 => ⟨S8192, .i32⟩
  | 77 => ⟨S8192, .i1⟩
  | 78 => ⟨S8192, .i1⟩
  | 79 => ⟨S8192, .f32⟩
  | 80 => ⟨S_, .i32⟩
  | 81 => ⟨S8192, .i32⟩
  | 82 => ⟨S8192, .i32⟩
  | 83 => ⟨S8192, .i32⟩
  | 84 => ⟨S_, .i32⟩
  | 85 => ⟨S_, .i32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S_, .i32⟩
  | 93 => ⟨S8192, .i32⟩
  | 94 => ⟨S8192, .i1⟩
  | 95 => ⟨S_, .i32⟩
  | 96 => ⟨S8192, .i32⟩
  | 97 => ⟨S8192, .i32⟩
  | 98 => ⟨S8192, .i32⟩
  | 99 => ⟨S8192x1, .i32⟩
  | 100 => ⟨S1, .i32⟩
  | 101 => ⟨S_, .i32⟩
  | 102 => ⟨S8192x1, .i32⟩
  | 103 => ⟨S8192x1, .i1⟩
  | 104 => ⟨S1x1, .i32⟩
  | 105 => ⟨S8192x1, .i32⟩
  | 106 => ⟨S8192x1, .i1⟩
  | 107 => ⟨S8192x1, .i1⟩
  | 108 => ⟨S_, .i1⟩
  | 109 => ⟨S8192, .i1⟩
  | 110 => ⟨S8192x1024, .f32⟩
  | 111 => ⟨S8192x1024, .i1⟩
  | 112 => ⟨S_, .f32⟩
  | 113 => ⟨S8192x1024, .f32⟩
  | 114 => ⟨S8192x1024, .f32⟩
  | 115 => ⟨S8192, .f32⟩
  | 116 => ⟨S8192x1, .f32⟩
  | 117 => ⟨S8192x1024, .f32⟩
  | 118 => ⟨S8192x1024, .f32⟩
  | 119 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v17 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_cst_7 : Ref sig .tc := ⟨.hbm, 49, rfl⟩
abbrev main_v27 : Ref sig .tc := ⟨.hbm, 50, rfl⟩
abbrev main_call2_call0_cst : Ref sig .tc := ⟨.hbm, 51, rfl⟩
abbrev main_call2_call0_v0 : Ref sig .tc := ⟨.hbm, 52, rfl⟩
abbrev main_v28 : Ref sig .tc := ⟨.hbm, 53, rfl⟩
abbrev main_cst_8 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_9 : Ref sig .tc := ⟨.hbm, 58, rfl⟩
abbrev main_v32 : Ref sig .tc := ⟨.hbm, 59, rfl⟩
abbrev main_v33 : Ref sig .tc := ⟨.hbm, 60, rfl⟩
abbrev main_cst_10 : Ref sig .tc := ⟨.hbm, 61, rfl⟩
abbrev main_v34 : Ref sig .tc := ⟨.hbm, 62, rfl⟩
abbrev main_v35 : Ref sig .tc := ⟨.hbm, 63, rfl⟩
abbrev main_call3_call0_cst : Ref sig .tc := ⟨.hbm, 64, rfl⟩
abbrev main_call3_call0_v0 : Ref sig .tc := ⟨.hbm, 65, rfl⟩
abbrev main_v36 : Ref sig .tc := ⟨.hbm, 66, rfl⟩
abbrev main_cst_11 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_12 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_13 : Ref sig .tc := ⟨.hbm, 77, rfl⟩
abbrev main_call4_v0 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_14 : Ref sig .tc := ⟨.hbm, 82, rfl⟩
abbrev main_v48 : Ref sig .tc := ⟨.hbm, 83, rfl⟩
abbrev main_c : Ref sig .tc := ⟨.hbm, 84, rfl⟩
abbrev main_v49 : Ref sig .tc := ⟨.hbm, 85, rfl⟩
abbrev main_v50 : Ref sig .tc := ⟨.hbm, 86, rfl⟩
abbrev main_c_15 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_c_16 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_c_17 : Ref sig .tc := ⟨.hbm, 96, rfl⟩
abbrev main_c_18 : Ref sig .tc := ⟨.hbm, 97, rfl⟩
abbrev main_call5_v0 : Ref sig .tc := ⟨.hbm, 98, rfl⟩
abbrev main_call5_v1 : Ref sig .tc := ⟨.hbm, 99, rfl⟩
abbrev main_call5_v2 : Ref sig .tc := ⟨.hbm, 100, rfl⟩
abbrev main_call5_v3 : Ref sig .tc := ⟨.hbm, 101, rfl⟩
abbrev main_call5_v4 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_19 : Ref sig .tc := ⟨.hbm, 107, rfl⟩
abbrev main_v62 : Ref sig .tc := ⟨.hbm, 108, rfl⟩
abbrev main_v63 : Ref sig .tc := ⟨.hbm, 109, rfl⟩
abbrev main_c_20 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_c_21 : Ref sig .tc := ⟨.hbm, 116, rfl⟩
abbrev main_v69 : Ref sig .tc := ⟨.hbm, 117, rfl⟩
abbrev main_v70 : Ref sig .tc := ⟨.hbm, 118, rfl⟩
abbrev main_c_22 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_c_23 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_c_24 : Ref sig .tc := ⟨.hbm, 128, rfl⟩
abbrev main_c_25 : Ref sig .tc := ⟨.hbm, 129, rfl⟩
abbrev main_call6_v0 : Ref sig .tc := ⟨.hbm, 130, rfl⟩
abbrev main_call6_v1 : Ref sig .tc := ⟨.hbm, 131, rfl⟩
abbrev main_call6_v2 : Ref sig .tc := ⟨.hbm, 132, rfl⟩
abbrev main_call6_v3 : Ref sig .tc := ⟨.hbm, 133, rfl⟩
abbrev main_call6_v4 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_c_26 : Ref sig .tc := ⟨.hbm, 139, rfl⟩
abbrev main_v82 : Ref sig .tc := ⟨.hbm, 140, rfl⟩
abbrev main_v83 : Ref sig .tc := ⟨.hbm, 141, rfl⟩
abbrev main_c_27 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_cst_28 : Ref sig .tc := ⟨.hbm, 150, rfl⟩
abbrev main_v91 : Ref sig .tc := ⟨.hbm, 151, rfl⟩
abbrev main_c_29 : Ref sig .tc := ⟨.hbm, 152, rfl⟩
abbrev main_v92 : Ref sig .tc := ⟨.hbm, 153, rfl⟩
abbrev main_v93 : Ref sig .tc := ⟨.hbm, 154, rfl⟩
abbrev main_c_30 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_c_31 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_c_32 : Ref sig .tc := ⟨.hbm, 164, rfl⟩
abbrev main_c_33 : Ref sig .tc := ⟨.hbm, 165, rfl⟩
abbrev main_call7_v0 : Ref sig .tc := ⟨.hbm, 166, rfl⟩
abbrev main_call7_v1 : Ref sig .tc := ⟨.hbm, 167, rfl⟩
abbrev main_call7_v2 : Ref sig .tc := ⟨.hbm, 168, rfl⟩
abbrev main_call7_v3 : Ref sig .tc := ⟨.hbm, 169, rfl⟩
abbrev main_call7_v4 : Ref sig .tc := ⟨.hbm, 170, rfl⟩
abbrev main_v101 : Ref sig .tc := ⟨.hbm, 171, rfl⟩
abbrev main_call8_c : Ref sig .tc := ⟨.hbm, 172, rfl⟩
abbrev main_call8_v0 : Ref sig .tc := ⟨.hbm, 173, rfl⟩
abbrev main_call8_v1 : Ref sig .tc := ⟨.hbm, 174, rfl⟩
abbrev main_call8_c_0 : Ref sig .tc := ⟨.hbm, 175, rfl⟩
abbrev main_call8_v2 : Ref sig .tc := ⟨.hbm, 176, rfl⟩
abbrev main_call8_v3 : Ref sig .tc := ⟨.hbm, 177, rfl⟩
abbrev main_call8_v4 : Ref sig .tc := ⟨.hbm, 178, rfl⟩
abbrev main_call8_v5 : Ref sig .tc := ⟨.hbm, 179, rfl⟩
abbrev main_call8_c_1 : Ref sig .tc := ⟨.hbm, 180, rfl⟩
abbrev main_call8_c_2 : Ref sig .tc := ⟨.hbm, 181, rfl⟩
abbrev main_call8_v6 : Ref sig .tc := ⟨.hbm, 182, rfl⟩
abbrev main_call8_v7 : Ref sig .tc := ⟨.hbm, 183, rfl⟩
abbrev main_call8_v8 : Ref sig .tc := ⟨.hbm, 184, rfl⟩
abbrev main_call8_v9 : Ref sig .tc := ⟨.hbm, 185, rfl⟩
abbrev main_call8_v10 : Ref sig .tc := ⟨.hbm, 186, rfl⟩
abbrev main_call8_v11 : Ref sig .tc := ⟨.hbm, 187, rfl⟩
abbrev main_call8_c_3 : Ref sig .tc := ⟨.hbm, 188, rfl⟩
abbrev main_call8_v12 : Ref sig .tc := ⟨.hbm, 189, rfl⟩
abbrev main_call8_v13 : Ref sig .tc := ⟨.hbm, 190, rfl⟩
abbrev main_call8_v14 : Ref sig .tc := ⟨.hbm, 191, rfl⟩
abbrev main_call8_cst : Ref sig .tc := ⟨.hbm, 192, rfl⟩
abbrev main_call8_v15 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_v107 : Ref sig .tc := ⟨.hbm, 199, rfl⟩
abbrev main_c_34 : Ref sig .tc := ⟨.hbm, 200, rfl⟩
abbrev main_v108 : Ref sig .tc := ⟨.hbm, 201, rfl⟩
abbrev main_v109 : Ref sig .tc := ⟨.hbm, 202, rfl⟩
abbrev main_c_35 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_c_36 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_c_37 : Ref sig .tc := ⟨.hbm, 212, rfl⟩
abbrev main_c_38 : Ref sig .tc := ⟨.hbm, 213, rfl⟩
abbrev main_call9_v0 : Ref sig .tc := ⟨.hbm, 214, rfl⟩
abbrev main_call9_v1 : Ref sig .tc := ⟨.hbm, 215, rfl⟩
abbrev main_call9_v2 : Ref sig .tc := ⟨.hbm, 216, rfl⟩
abbrev main_call9_v3 : Ref sig .tc := ⟨.hbm, 217, rfl⟩
abbrev main_call9_v4 : Ref sig .tc := ⟨.hbm, 218, rfl⟩
abbrev main_v117 : Ref sig .tc := ⟨.hbm, 219, rfl⟩
abbrev main_call10_c : Ref sig .tc := ⟨.hbm, 220, rfl⟩
abbrev main_call10_v0 : Ref sig .tc := ⟨.hbm, 221, rfl⟩
abbrev main_call10_v1 : Ref sig .tc := ⟨.hbm, 222, rfl⟩
abbrev main_call10_c_0 : Ref sig .tc := ⟨.hbm, 223, rfl⟩
abbrev main_call10_v2 : Ref sig .tc := ⟨.hbm, 224, rfl⟩
abbrev main_call10_v3 : Ref sig .tc := ⟨.hbm, 225, rfl⟩
abbrev main_call10_v4 : Ref sig .tc := ⟨.hbm, 226, rfl⟩
abbrev main_call10_v5 : Ref sig .tc := ⟨.hbm, 227, rfl⟩
abbrev main_call10_c_1 : Ref sig .tc := ⟨.hbm, 228, rfl⟩
abbrev main_call10_c_2 : Ref sig .tc := ⟨.hbm, 229, rfl⟩
abbrev main_call10_v6 : Ref sig .tc := ⟨.hbm, 230, rfl⟩
abbrev main_call10_v7 : Ref sig .tc := ⟨.hbm, 231, rfl⟩
abbrev main_call10_v8 : Ref sig .tc := ⟨.hbm, 232, rfl⟩
abbrev main_call10_v9 : Ref sig .tc := ⟨.hbm, 233, rfl⟩
abbrev main_call10_v10 : Ref sig .tc := ⟨.hbm, 234, rfl⟩
abbrev main_call10_v11 : Ref sig .tc := ⟨.hbm, 235, rfl⟩
abbrev main_call10_c_3 : Ref sig .tc := ⟨.hbm, 236, rfl⟩
abbrev main_call10_v12 : Ref sig .tc := ⟨.hbm, 237, rfl⟩
abbrev main_call10_v13 : Ref sig .tc := ⟨.hbm, 238, rfl⟩
abbrev main_call10_v14 : Ref sig .tc := ⟨.hbm, 239, rfl⟩
abbrev main_call10_cst : Ref sig .tc := ⟨.hbm, 240, rfl⟩
abbrev main_call10_v15 : Ref sig .tc := ⟨.hbm, 241, rfl⟩
abbrev main_v118 : Ref sig .tc := ⟨.hbm, 242, rfl⟩
abbrev main_v119 : Ref sig .tc := ⟨.hbm, 243, rfl⟩
abbrev main_v120 : Ref sig .tc := ⟨.hbm, 244, rfl⟩
abbrev main_v121 : Ref sig .tc := ⟨.hbm, 245, rfl⟩
abbrev main_v122 : Ref sig .tc := ⟨.hbm, 246, rfl⟩
abbrev main_v123 : Ref sig .tc := ⟨.hbm, 247, rfl⟩

abbrev nD : Nat := 1
abbrev τ : Topo := Topo.v7x

variable {F : FTy → Type} [FloatOps F]
-- ==== Proof.KernelIdeal.Slots.lean ====
/-
  The kernel's operands as its grid points use them: the conditions of its branches in closed form, the four slots of the
  token cache with the transfers that fill them, and the contents the carried buffers hold from point to point.

  Token block `b` (rows `2048 b` to `2048 b + 2047` of `x`) goes to slot `b` of the cache on semaphore cell `b`. Point 0
  starts all four transfers, point `b < 4` waits for the one of block `b`, and points 4 to 7 read the slots again.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Ring
public import Idealize.ShloMosaic.Lib.Ring.AtN
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The branches -/

/-- The condition of the first branch: the first point. -/
abbrev cond1 (i : grid0.Coords) : Prop :=
  (Scalar.cmpi .ne (Scalar.extui (Scalar.cmpi .eq (BitVec.ofNat 32 (i 0).val) 0#32)) 0#32) = 1#1

theorem cond1_iff : ∀ t : Fin cfg0.N, cond1 (grid0.coords t) ↔ t.val = 0 := by decide +kernel
theorem cond2_iff : ∀ t : Fin cfg0.N, k0_cond2 (grid0.coords t) = 1#1 ↔ t.val < 4 := by decide +kernel
theorem cond3_iff : ∀ t : Fin cfg0.N, k0_cond3 (grid0.coords t) = 1#1 ↔ t.val = 3 := by decide +kernel
theorem cond4_iff : ∀ t : Fin cfg0.N, k0_cond4 (grid0.coords t) = 1#1 ↔ 4 ≤ t.val := by decide +kernel

/-! ## The operands -/

/-- The token cache, the routing rows, the two running counts, and the sum of the gates. -/
abbrev mCache : Memref sig .tc .vmem S8192x1024 .f32 := Memref.whole cc0_scratch0
abbrev mRoute : Memref sig .tc .vmem S8x8192 .f32 := Memref.whole cc0_scratch1
abbrev mCnt1 : Memref sig .tc .vmem S16x1 .f32 := Memref.whole cc0_scratch2
abbrev mCnt2 : Memref sig .tc .vmem S16x1 .f32 := Memref.whole cc0_scratch3
abbrev mGates : Memref sig .tc .vmem S16x2048 .f32 := Memref.whole cc0_scratch4
/-- The tokens, left in HBM. -/
abbrev mX : Memref sig .tc .hbm S8192x1024 .f32 := Memref.whole main_arg0

/-- What memref `M`'s buffer holds, and that buffer held whole at `f`. -/
abbrev BufOf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : BufOf (F := F) c M) : sProp 𝕄 :=
  M.view.loc (c : Thread nD τ) ↦{fullShare} f
/-- The elements of a view held at `f`. -/
abbrev heldOn (c : Dev nD) {sp : Space} {S : Shape} {e : EltTy} (M : Memref sig .tc sp S e) (f : BufOf (F := F) c M) : sProp 𝕄 :=
  M.view.loc (c : Thread nD τ) ↦[M.view.set]{fullShare} f

/-- The kernel's own semaphore cells, all at zero. -/
abbrev osem0 : Fin 4 → SemLoc sig := fun j => (![SemLoc.dma 4, SemLoc.dma 5, SemLoc.dma 6, SemLoc.dma 7] : Fin 4 → SemLoc sig) j
theorem ownSemFacts0 : Pipeline.OwnSemFacts spec0 osem0 := by decide
theorem ownSems0_cells (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0
          ∗ semVal ((c : Thread nD τ), SemLoc.dma 6) 0 ∗ semVal ((c : Thread nD τ), SemLoc.dma 7) 0) := by
  rw [Pipeline.ownSems0_eq_of_list c osem0 [0, 1, 2, 3] (by decide) (by decide)]; rfl

/-! ## The slots of the token cache -/

/-- The token block that point `t` works on: `t` itself in the first half of the grid, `t - 4` in the second. -/
def bk (t : ℕ) : Fin 4 := ⟨t % 4, Nat.mod_lt _ (by decide)⟩

theorem inb_blk (s : Fin 4) : ∀ a, (![2048 * s.val, 0] : Fin 2 → Nat) a + S2048x1024.size a ≤ S8192x1024.size a := by
  have := s.isLt; intro a; fin_cases a <;> simp <;> omega
theorem inb_cell (s : Fin 4) : ∀ a, (![s.val] : Fin 1 → Nat) a + S1.size a ≤ S4.size a := by
  have := s.isLt; intro a; fin_cases a <;> simp <;> omega
theorem inb_col (s : Fin 4) : ∀ a, (![0, 2048 * s.val] : Fin 2 → Nat) a + S8x2048.size a ≤ S8x8192.size a := by
  have := s.isLt; intro a; fin_cases a <;> simp <;> omega
/-- Slot `s` of the cache, block `s` of the tokens, and cell `s` of the semaphores. -/
def slotM (s : Fin 4) : Memref sig .tc .vmem S2048x1024 .f32 :=
  mCache.slice (Rect.unit (s := S8192x1024) ![2048 * s.val, 0] S2048x1024.size (inb_blk s)) (fun _ => rfl)
def srcM (s : Fin 4) : Memref sig .tc .hbm S2048x1024 .f32 :=
  mX.slice (Rect.unit (s := S8192x1024) ![2048 * s.val, 0] S2048x1024.size (inb_blk s)) (fun _ => rfl)
def cellM (s : Fin 4) : DmaSems sig S_ :=
  (cc0_scratch5.slice (Rect.unit (s := S4) ![s.val] S1.size (inb_cell s))).squeeze S_ squeezes_S1_S_
abbrev cellR (s : Fin 4) : SemLoc sig := SemLoc.dma (cellM s).sem
theorem cellR_0 : cellR 0 = SemLoc.dma 4 := by decide
theorem cellR_1 : cellR 1 = SemLoc.dma 5 := by decide
theorem cellR_2 : cellR 2 = SemLoc.dma 6 := by decide
theorem cellR_3 : cellR 3 = SemLoc.dma 7 := by decide

section Slots
variable (c : Dev nD) (X : BufOf (F := F) c mX)

/-- Slot `s` held at `f`; cell `s` at zero; the elements of token block `s`; slot `s` once block `s` has landed in it; the
    transfer of block `s` into slot `s` on its way. -/
abbrev slotP (s : Fin 4) (f : BufOf (F := F) c (slotM s)) : sProp 𝕄 :=
  (slotM s).view.loc (c : Thread nD τ) ↦[(slotM s).view.set]{fullShare} f
abbrev cellP (s : Fin 4) : sProp 𝕄 := semVal ((c : Thread nD τ), cellR s) 0
abbrev srcP (s : Fin 4) : sProp 𝕄 := (srcM s).view.loc (c : Thread nD τ) ↦[(srcM s).view.set]{fullShare} X
abbrev landed (s : Fin 4) (f : BufOf (F := F) c (slotM s)) : BufOf (F := F) c (slotM s) :=
  (slotM s).view.writes (Elt F) f [⟨Rect.whole S2048x1024, ReadAs.same.apply ((srcM s).view.read (Elt F) X)⟩]
abbrev flightP (s : Fin 4) (f : BufOf (F := F) c (slotM s)) : sProp 𝕄 :=
  Transfers.Flight countersEmb (c : Thread nD τ) (cellR s) default ((slotM s).view.amount (cellR s))
    iprop(slotP c s (landed c X s f) ∗ srcP c X s)

/-- Token block `s`, and slot `s` filled with it. -/
abbrev xblk (s : Fin 4) : Vec F S2048x1024 .f32 := (srcM s).view.read (Elt F) X
abbrev filled (s : Fin 4) : BufOf (F := F) c (slotM s) :=
  (slotM s).view.writes (Elt F) (slotM s).view.junk [⟨Rect.whole S2048x1024, ReadAs.same.apply ((srcM s).view.read (Elt F) X)⟩]

/-- A slot before its transfer starts, on its way, and filled. -/
def freeS (s : Fin 4) : sProp 𝕄 := iprop(cellP c s ∗ (∃ f, slotP (F := F) c s f) ∗ srcP c X s)
def flyS (s : Fin 4) : sProp 𝕄 := iprop(∃ f, flightP c X s f)
def landS (s : Fin 4) : sProp 𝕄 := iprop(cellP c s ∗ slotP c s (filled c X s) ∗ srcP c X s)

end Slots

/-! ### The slots tile the cache, and the blocks tile the tokens -/

abbrev blkSet (s : Fin 4) : Finset S8192x1024.Idx := (Rect.unit (s := S8192x1024) ![2048 * s.val, 0] S2048x1024.size (inb_blk s)).set
theorem slotM_set (s : Fin 4) : (slotM s).view.set = blkSet s := by
  simp only [slotM]; exact View.set_slice_whole _ _
theorem srcM_set (s : Fin 4) : (srcM s).view.set = blkSet s := by
  simp only [srcM]; exact View.set_slice_whole _ _
theorem blk_disjoint (s s' : Fin 4) (h : s ≠ s') : Disjoint (blkSet s) (blkSet s') :=
  Ring.lead_disjoint (s := S8192x1024) (0 : Fin 2) 2048 (fun s : Fin 4 => (![2048 * s.val, 0] : Fin 2 → Nat)) S2048x1024.size inb_blk (fun s => by simp) rfl s s' h
theorem blk_cover : Finset.univ.biUnion blkSet = Finset.univ :=
  Ring.lead_cover (s := S8192x1024) (0 : Fin 2) 2048 (fun s : Fin 4 => (![2048 * s.val, 0] : Fin 2 → Nat)) S2048x1024.size inb_blk (fun s => by simp)
    (fun s a ha => by fin_cases a <;> first | exact absurd rfl ha | rfl) rfl (fun a ha => by fin_cases a <;> first | exact absurd rfl ha | rfl) rfl

section InOut
variable (c : Dev nD) (X : BufOf (F := F) c mX)

omit [FloatOps F] in
theorem slotP_eq (s : Fin 4) (f) : slotP (F := F) c s f = (((c : Thread nD τ).loc cc0_scratch0) ↦[blkSet s]{fullShare} f : sProp 𝕄) := by
  unfold slotP; rw [slotM_set]; rfl
omit [FloatOps F] in
theorem srcP_eq (s : Fin 4) : srcP (F := F) c X s = (((c : Thread nD τ).loc main_arg0) ↦[blkSet s]{fullShare} X : sProp 𝕄) := by
  unfold srcP; rw [srcM_set]; rfl
omit [FloatOps F] in
/-- The tokens whole are their four blocks. -/
theorem src_blocks : (held c mX X : sProp 𝕄) = iprop(srcP c X 0 ∗ srcP c X 1 ∗ srcP c X 2 ∗ srcP c X 3) := by
  rw [srcP_eq, srcP_eq, srcP_eq, srcP_eq]
  exact (Ring.pointsTo_blocks (ℓ := (c : Thread nD τ).loc main_arg0) blkSet blk_disjoint blk_cover X).trans (Ring.bigSep_fin4 _)
omit [FloatOps F] in
/-- The cache whole is its four slots, and back. -/
theorem slots_in : iprop(∃ f, held (F := F) c mCache f)
    ⊢ (iprop((∃ f, slotP (F := F) c 0 f) ∗ (∃ f, slotP (F := F) c 1 f) ∗ (∃ f, slotP (F := F) c 2 f) ∗ ∃ f, slotP (F := F) c 3 f) : sProp 𝕄) :=
  Ring.slots4_split (U := Pipeline.UD sig nD τ) (ℓ := (c : Thread nD τ).loc cc0_scratch0) (q := fullShare) blkSet blk_disjoint blk_cover
    (slotP c 0) (slotP c 1) (slotP c 2) (slotP c 3) (slotP_eq c 0) (slotP_eq c 1) (slotP_eq c 2) (slotP_eq c 3)
omit [FloatOps F] in
theorem slots_out : (iprop((∃ f, slotP (F := F) c 0 f) ∗ (∃ f, slotP (F := F) c 1 f) ∗ (∃ f, slotP (F := F) c 2 f) ∗ ∃ f, slotP (F := F) c 3 f) : sProp 𝕄)
    ⊢ iprop(∃ f, held (F := F) c mCache f) :=
  Ring.slots4_join (U := Pipeline.UD sig nD τ) (ℓ := (c : Thread nD τ).loc cc0_scratch0) (q := fullShare) blkSet blk_disjoint blk_cover
    (slotP c 0) (slotP c 1) (slotP c 2) (slotP c 3) (slotP_eq c 0) (slotP_eq c 1) (slotP_eq c 2) (slotP_eq c 3)
omit [FloatOps F] in
theorem cellP_dma (s : Fin 4) (k : SemLoc sig) (h : cellR s = k) : cellP (F := F) c s = semVal ((c : Thread nD τ), k) 0 := by
  unfold cellP; rw [h]
end InOut

/-! ### The body's own names for the slots, blocks and cells at each point -/

section Names
variable (t : Fin grid0.N)

theorem off1_eq : ∀ t : Fin grid0.N, k0_cond2 (grid0.coords t) = 1#1 → k0_off1 (grid0.coords t) = ![(bk t.val).val] := by decide +kernel
theorem off2_eq : ∀ t : Fin grid0.N, k0_cond2 (grid0.coords t) = 1#1 → k0_off2 (grid0.coords t) = ![2048 * (bk t.val).val, 0] := by decide +kernel
theorem off3_eq : ∀ t : Fin grid0.N, k0_cond2 (grid0.coords t) = 1#1 → k0_off3 (grid0.coords t) = ![2048 * (bk t.val).val, 0] := by decide +kernel
theorem off4_eq : ∀ t : Fin grid0.N, k0_cond2 (grid0.coords t) = 1#1 → k0_off4 (grid0.coords t) = ![0, 2048 * (bk t.val).val] := by decide +kernel
theorem off5_eq : ∀ t : Fin grid0.N, k0_cond4 (grid0.coords t) = 1#1 → k0_off5 (grid0.coords t) = ![0, 2048 * (bk t.val).val] := by decide +kernel
theorem off6_eq : ∀ t : Fin grid0.N, k0_cond4 (grid0.coords t) = 1#1 → k0_off6 (grid0.coords t) = ![2048 * (bk t.val).val, 0] := by decide +kernel

@[sl_canon] theorem cell_name (t : Fin grid0.N) (h : k0_cond2 (grid0.coords t) = 1#1) :
    (cc0_scratch5.slice (Rect.unit (s := S4) (k0_off1 (grid0.coords t)) S1.size (k0_off1_inb (grid0.coords t) h))).squeeze S_ squeezes_S1_S_ = cellM (bk t.val) :=
  congrArg (fun A : DmaSems sig S1 => A.squeeze S_ squeezes_S1_S_) (SemArray.slice_unit_congr _ (off1_eq t h) _ _)
@[sl_canon] theorem slot_name (t : Fin grid0.N) (h : k0_cond2 (grid0.coords t) = 1#1) :
    mCache.slice (Rect.unit (s := S8192x1024) (k0_off2 (grid0.coords t)) S2048x1024.size (k0_off2_inb (grid0.coords t) h)) (fun _ => rfl) = slotM (bk t.val) :=
  Memref.slice_unit_congr _ (off2_eq t h) _ _ (fun _ => rfl) (fun _ => rfl)
@[sl_canon] theorem src_name (t : Fin grid0.N) (h : k0_cond2 (grid0.coords t) = 1#1) :
    mX.slice (Rect.unit (s := S8192x1024) (k0_off2 (grid0.coords t)) S2048x1024.size (k0_off2_inb (grid0.coords t) h)) (fun _ => rfl) = srcM (bk t.val) :=
  Memref.slice_unit_congr _ (off2_eq t h) _ _ (fun _ => rfl) (fun _ => rfl)

/-- The same at the first point, where the offsets are literals. -/
theorem bk_first : ∀ t : Fin grid0.N, cond1 (grid0.coords t) → ∀ b : Fin 4, bk (t.val + b.val) = b := by decide +kernel
@[sl_canon] theorem slot_lit0 (t : Fin grid0.N) (h : cond1 (grid0.coords t)) :
    mCache.slice (Rect.unit (s := S8192x1024) ![0, 0] S2048x1024.size inb_S8192x1024_S2048x1024_0_0) (fun _ => rfl) = slotM (bk t.val) :=
  (bk_first t h 0).symm ▸ rfl
@[sl_canon] theorem src_lit0 (t : Fin grid0.N) (h : cond1 (grid0.coords t)) :
    mX.slice (Rect.unit (s := S8192x1024) ![0, 0] S2048x1024.size inb_S8192x1024_S2048x1024_0_0) (fun _ => rfl) = srcM (bk t.val) :=
  (bk_first t h 0).symm ▸ rfl
@[sl_canon] theorem cell_lit0 (t : Fin grid0.N) (h : cond1 (grid0.coords t)) :
    (cc0_scratch5.slice (Rect.unit (s := S4) ![0] S1.size inb_S4_S1_0)).squeeze S_ squeezes_S1_S_ = cellM (bk t.val) :=
  (bk_first t h 0).symm ▸ rfl
@[sl_canon] theorem slot_lit1 (t : Fin grid0.N) (h : cond1 (grid0.coords t)) :
    mCache.slice (Rect.unit (s := S8192x1024) ![2048, 0] S2048x1024.size inb_S8192x1024_S2048x1024_2048_0) (fun _ => rfl) = slotM (bk (t.val + 1)) :=
  (bk_first t h 1).symm ▸ rfl
@[sl_canon] theorem src_lit1 (t : Fin grid0.N) (h : cond1 (grid0.coords t)) :
    mX.slice (Rect.unit (s := S8192x1024) ![2048, 0] S2048x1024.size inb_S8192x1024_S2048x1024_2048_0) (fun _ => rfl) = srcM (bk (t.val + 1)) :=
  (bk_first t h 1).symm ▸ rfl
@[sl_canon] theorem cell_lit1 (t : Fin grid0.N) (h : cond1 (grid0.coords t)) :
    (cc0_scratch5.slice (Rect.unit (s := S4) ![1] S1.size inb_S4_S1_1)).squeeze S_ squeezes_S1_S_ = cellM (bk (t.val + 1)) :=
  (bk_first t h 1).symm ▸ rfl
@[sl_canon] theorem slot_lit2 (t : Fin grid0.N) (h : cond1 (grid0.coords t)) :
    mCache.slice (Rect.unit (s := S8192x1024) ![4096, 0] S2048x1024.size inb_S8192x1024_S2048x1024_4096_0) (fun _ => rfl) = slotM (bk (t.val + 2)) :=
  (bk_first t h 2).symm ▸ rfl
@[sl_canon] theorem src_lit2 (t : Fin grid0.N) (h : cond1 (grid0.coords t)) :
    mX.slice (Rect.unit (s := S8192x1024) ![4096, 0] S2048x1024.size inb_S8192x1024_S2048x1024_4096_0) (fun _ => rfl) = srcM (bk (t.val + 2)) :=
  (bk_first t h 2).symm ▸ rfl
@[sl_canon] theorem cell_lit2 (t : Fin grid0.N) (h : cond1 (grid0.coords t)) :
    (cc0_scratch5.slice (Rect.unit (s := S4) ![2] S1.size inb_S4_S1_2)).squeeze S_ squeezes_S1_S_ = cellM (bk (t.val + 2)) :=
  (bk_first t h 2).symm ▸ rfl
@[sl_canon] theorem slot_lit3 (t : Fin grid0.N) (h : cond1 (grid0.coords t)) :
    mCache.slice (Rect.unit (s := S8192x1024) ![6144, 0] S2048x1024.size inb_S8192x1024_S2048x1024_6144_0) (fun _ => rfl) = slotM (bk (t.val + 3)) :=
  (bk_first t h 3).symm ▸ rfl
@[sl_canon] theorem src_lit3 (t : Fin grid0.N) (h : cond1 (grid0.coords t)) :
    mX.slice (Rect.unit (s := S8192x1024) ![6144, 0] S2048x1024.size inb_S8192x1024_S2048x1024_6144_0) (fun _ => rfl) = srcM (bk (t.val + 3)) :=
  (bk_first t h 3).symm ▸ rfl
@[sl_canon] theorem cell_lit3 (t : Fin grid0.N) (h : cond1 (grid0.coords t)) :
    (cc0_scratch5.slice (Rect.unit (s := S4) ![3] S1.size inb_S4_S1_3)).squeeze S_ squeezes_S1_S_ = cellM (bk (t.val + 3)) :=
  (bk_first t h 3).symm ▸ rfl

instance (priority := high) closedOff3 (t : Fin grid0.N) [h : Fact (k0_cond2 (grid0.coords t) = 1#1)] : ClosedOff (k0_off3 (grid0.coords t)) :=
  ⟨![2048 * (bk t.val).val, 0], off3_eq t h.out⟩
instance (priority := high) closedOff6 (t : Fin grid0.N) [h : Fact (k0_cond4 (grid0.coords t) = 1#1)] : ClosedOff (k0_off6 (grid0.coords t)) :=
  ⟨![2048 * (bk t.val).val, 0], off6_eq t h.out⟩
end Names

/-! ## Loads and stores as the body makes them -/

section Access
variable (c : Dev nD) (X : BufOf (F := F) c mX)

/-- A load of block `t` out of the filled slot reads the block of tokens. -/
theorem load_filled (s : Fin 4) {o : Fin 2 → Nat} (ho : o = ![2048 * s.val, 0]) (inb : ∀ a, o a + S2048x1024.size a ≤ S8192x1024.size a) :
    View.readAt (Elt F) mCache.view (Rect.unit (s := S8192x1024) o S2048x1024.size inb).toLoadRect (filled c X s) = xblk c X s := by
  subst ho
  exact View.read_writes_full (slotM s).view _ (off := fun _ => 0) (fun a => by simp) _ []

section Whole
variable {sp : Space} {S : Shape} {e : EltTy}

omit [FloatOps F] in
/-- A load of a whole operand reads all of it. -/
theorem load_all (M : Memref sig .tc sp S e) {o : Fin S.rank → Nat} (inb : ∀ a, o a + S.size a ≤ S.size a) (f : BufOf (F := F) c M) :
    View.readAt (Elt F) M.view (Rect.unit (s := S) o S.size inb).toLoadRect f = M.view.read (Elt F) f :=
  View.readAt_full M.view f inb
end Whole

omit [FloatOps F] in
/-- A store of a whole running count, or of the sum of the gates, leaves what it stores. -/
theorem store_cnt1 {o : Fin 2 → Nat} (inb : ∀ a, o a + S16x1.size a ≤ S16x1.size a) (f : BufOf (F := F) c mCnt1) (w : Vec F S16x1 .f32) (L) :
    mCnt1.view.writes (Elt F) f (⟨Rect.unit (s := S16x1) o S16x1.size inb, w⟩ :: L) = w :=
  (View.read_whole (Val := Elt F) cc0_scratch2 _).symm.trans (View.read_writes_full mCnt1.view f inb w L)
omit [FloatOps F] in
theorem store_cnt2 {o : Fin 2 → Nat} (inb : ∀ a, o a + S16x1.size a ≤ S16x1.size a) (f : BufOf (F := F) c mCnt2) (w : Vec F S16x1 .f32) (L) :
    mCnt2.view.writes (Elt F) f (⟨Rect.unit (s := S16x1) o S16x1.size inb, w⟩ :: L) = w :=
  (View.read_whole (Val := Elt F) cc0_scratch3 _).symm.trans (View.read_writes_full mCnt2.view f inb w L)
omit [FloatOps F] in
theorem store_gates {o : Fin 2 → Nat} (inb : ∀ a, o a + S16x2048.size a ≤ S16x2048.size a) (f : BufOf (F := F) c mGates) (w : Vec F S16x2048 .f32) (L) :
    mGates.view.writes (Elt F) f (⟨Rect.unit (s := S16x2048) o S16x2048.size inb, w⟩ :: L) = w :=
  (View.read_whole (Val := Elt F) cc0_scratch4 _).symm.trans (View.read_writes_full mGates.view f inb w L)

/-- The routing rows of the block at columns `2048 s` on, as a load reads them. -/
abbrev routeAt (s : Fin 4) (f : BufOf (F := F) c mRoute) : Vec F S8x2048 .f32 :=
  View.readAt (Elt F) mRoute.view (Rect.unit (s := S8x8192) ![0, 2048 * s.val] S8x2048.size (inb_col s)).toLoadRect f
/-- The routing rows with block `s` stored. -/
abbrev routeSet (s : Fin 4) (f : BufOf (F := F) c mRoute) (w : Vec F S8x2048 .f32) : BufOf (F := F) c mRoute :=
  mRoute.view.writes (Elt F) f [⟨Rect.unit (s := S8x8192) ![0, 2048 * s.val] S8x2048.size (inb_col s), w⟩]

theorem load_route (s : Fin 4) {o : Fin 2 → Nat} (ho : o = ![0, 2048 * s.val]) (inb : ∀ a, o a + S8x2048.size a ≤ S8x8192.size a) (f : BufOf (F := F) c mRoute) :
    View.readAt (Elt F) mRoute.view (Rect.unit (s := S8x8192) o S8x2048.size inb).toLoadRect f = routeAt c s f := by
  subst ho; rfl
theorem store_route (s : Fin 4) {o : Fin 2 → Nat} (ho : o = ![0, 2048 * s.val]) (inb : ∀ a, o a + S8x2048.size a ≤ S8x8192.size a)
    (f : BufOf (F := F) c mRoute) (w : Vec F S8x2048 .f32) :
    mRoute.view.writes (Elt F) f [⟨Rect.unit (s := S8x8192) o S8x2048.size inb, w⟩] = routeSet c s f w := by
  subst ho; rfl
/-- A block just stored reads back, and the other blocks are as they were. -/
theorem routeAt_set_self (s : Fin 4) (f) (w : Vec F S8x2048 .f32) : routeAt c s (routeSet c s f w) = w := by
  funext y
  rw [routeAt, View.readAt_apply]
  exact View.read_writes_cons_unit_of_mem mRoute.view f (inb_col s) w [] _ y rfl fun a => by simp
theorem routeAt_set_ne (s s' : Fin 4) (h : s ≠ s') (f) (w : Vec F S8x2048 .f32) : routeAt c s' (routeSet c s f w) = routeAt c s' f := by
  funext y
  refine (View.readAt_apply ..).trans ((View.read_writes_cons_unit_of_not_mem mRoute.view f (inb_col s) w [] _ rfl 1 ?_).trans (View.readAt_apply ..).symm)
  have hy : (y 1).val < 2048 := (y 1).isLt
  have hv : ((Rect.unit (s := S8x8192) ![0, 2048 * s'.val] S8x2048.size (inb_col s')).toLoadRect.idx y 1).val = 2048 * s'.val + 1 * (y 1).val := rfl
  have hne : s.val ≠ s'.val := fun e => h (Fin.ext e)
  rw [hv]
  show _ < 2048 * s.val ∨ 2048 * s.val + 2048 ≤ _
  omega
end Access

/-! ## What the carried buffers hold -/

section Step
variable (x : Vec F S2048x1024 .f32) (wg : Vec F S16x1024 .f32) (n1 n2 : Vec F S16x1 .f32)

/-- The row numbers of the table of experts by tokens. -/
abbrev rows : IVec S16x2048 32 := iota .tc S16x2048 32 [0] iota_S16x2048_d0_w32
/-- What one point makes of its block of tokens `x` and of the counts carried to it: the two counts, the sum of the gates and
    the routing rows. -/
def cntStep1 : Vec F S16x1 .f32 := k0_pay23 (k0_pay19 rows (k0_pay9 x wg) (k0_pay12 x wg) n1)
def cntStep2 : Vec F S16x1 .f32 := k0_pay24 (k0_pay20 rows (k0_pay9 x wg) (k0_pay12 x wg) n2)
def gateStep (g : Vec F S16x2048 .f32) : Vec F S16x2048 .f32 := k0_pay25 (k0_pay7 x wg) g
def routeOf : Vec F S8x2048 .f32 :=
  k0_pay1
    (k0_pay26 (k0_pay15 (k0_pay8 x wg) (k0_pay11 x wg))
      (k0_pay21 rows (k0_pay8 x wg) (k0_pay9 x wg) (k0_pay11 x wg) (k0_pay12 x wg) n1)
      (k0_pay22 rows (k0_pay9 x wg) (k0_pay12 x wg) n2))
    k0_pay27 (k0_pay28 (k0_pay13 (k0_pay12 x wg)))
end Step

section Carried
variable (blk : Fin 4 → Vec F S2048x1024 .f32) (wg : Vec F S16x1024 .f32)

/-- The running counts of first choices and of second choices, each expert's, after `n` blocks. -/
def cnt1 : ℕ → Vec F S16x1 .f32
  | 0 => k0_pay4
  | n + 1 => cntStep1 (blk (bk n)) wg (cnt1 n)
def cnt2 : ℕ → Vec F S16x1 .f32
  | 0 => k0_pay5
  | n + 1 => cntStep2 (blk (bk n)) wg (cnt2 n)
/-- The sum of the gates, column by column, after `n` blocks. -/
def gateSum : ℕ → Vec F S16x2048 .f32
  | 0 => k0_pay6
  | n + 1 => gateStep (blk (bk n)) wg (gateSum n)
/-- The routing rows of block `n`. -/
def route (n : ℕ) : Vec F S8x2048 .f32 := routeOf (blk (bk n)) wg (cnt1 blk wg n) (cnt2 blk wg n)
/-- The loss, and block `n` of the result. -/
def lossV : Vec F S1x1 .f32 := k0_pay2 (gateSum blk wg 4) (cnt1 blk wg 4)
def outV (n : ℕ) : Vec F S2048x1024 .f32 := k0_pay3 (route blk wg n) (cnt1 blk wg 4) (blk (bk n))
end Carried

end Cert.KernelIdeal.Hand

end
-- ==== Proof.KernelIdeal.Between.lean ====
/-
  What holds between two grid points.
-/
module

public import proofs.«01_k».proof.Proof.KernelIdeal.Slots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- The tokens, their blocks, and the gating matrix, as the run finds them on core `c`. -/
abbrev tokens (c : Dev nD) : BufOf (F := F) c mX := V m c main_arg0
abbrev blkOf (c : Dev nD) : Fin 4 → Vec F S2048x1024 .f32 := xblk c (tokens m c)
abbrev wgOf (c : Dev nD) : Vec F S16x1024 .f32 := V m c main_arg1

/-- The staged gating matrix is the whole matrix at every point. -/
theorem iblk_wg (c : Dev nD) (t : Fin cfg0.N) : iblk m c 0 t = wgOf m c := by
  funext y
  refine congrArg (V m c main_arg1) (funext fun a => Fin.ext ?_)
  fin_cases a
  · show 0 * 16 + 1 * (y 0).val = (y 0).val; omega
  · show 0 * 1024 + 1 * (y 1).val = (y 1).val; omega

/-- Slot `s` before point `k`: untouched before point 0, filled after point `s` has waited for it, on its way in between. -/
def slotAt (c : Dev nD) (k : ℕ) (s : Fin 4) : sProp 𝕄 :=
  if k = 0 then freeS c (tokens m c) s else if s.val < k then landS c (tokens m c) s else flyS c (tokens m c) s

/-- The carried buffers before point `k`: at anything before point 0, then at what the first `k` blocks made of them (all four from
    point 4 on). -/
def carriedAt (c : Dev nD) (k : ℕ) : sProp 𝕄 :=
  if k = 0 then iprop((∃ f, held (F := F) c mRoute f) ∗ (∃ f, held (F := F) c mCnt1 f) ∗ (∃ f, held (F := F) c mCnt2 f) ∗ ∃ f, held (F := F) c mGates f)
  else iprop((∃ f, ⌜∀ i, i < min k 4 → routeAt c (bk i) f = route (blkOf m c) (wgOf m c) i⌝ ∗ held c mRoute f)
    ∗ held c mCnt1 (cnt1 (blkOf m c) (wgOf m c) (min k 4)) ∗ held c mCnt2 (cnt2 (blkOf m c) (wgOf m c) (min k 4))
    ∗ held c mGates (gateSum (blkOf m c) (wgOf m c) (min k 4)))

/-- Everything that holds before point `k`. -/
def Phi (c : Dev nD) (k : ℕ) : sProp 𝕄 :=
  iprop((∃ r, prngReg c r) ∗ bigSep Finset.univ (slotAt m c k) ∗ carriedAt m c k)

omit [FloatOps F] in
/-- One slot out of the four. -/
theorem pick (P : Fin 4 → sProp 𝕄) (s : Fin 4) : bigSep Finset.univ P = iprop(P s ∗ bigSep (Finset.univ.erase s) P) := by
  conv_lhs => rw [← Finset.insert_erase (Finset.mem_univ s)]
  exact BI.bigSep_insert (Finset.notMem_erase s _)

/-- A point of the first half after the first takes its slot from on its way to filled, and leaves the other slots alone. -/
theorem slots_route (c : Dev nD) (k : ℕ) (h0 : k ≠ 0) (h4 : k < 4) :
    bigSep Finset.univ (slotAt m c k) = iprop(flyS c (tokens m c) (bk k) ∗ bigSep (Finset.univ.erase (bk k)) (slotAt m c (k + 1))) := by
  have hk : (bk k).val = k := Nat.mod_eq_of_lt h4
  rw [pick _ (bk k), slotAt, if_neg h0, if_neg (by omega), BI.bigSep_congr fun s hs => ?_]
  have hs : s ≠ bk k := (Finset.mem_erase.mp hs).1
  have hs : s.val ≠ k := fun e => hs (Fin.ext (e.trans hk.symm))
  rw [slotAt, slotAt, if_neg h0, if_neg (Nat.succ_ne_zero k)]
  by_cases hlt : s.val < k
  · rw [if_pos hlt, if_pos (by omega)]
  · rw [if_neg hlt, if_neg (by omega)]
theorem slots_land (c : Dev nD) (k : ℕ) (s : Fin 4) (h : s.val < k) :
    bigSep Finset.univ (slotAt m c k) = iprop(landS c (tokens m c) s ∗ bigSep (Finset.univ.erase s) (slotAt m c k)) := by
  rw [pick _ s]
  conv_lhs => rw [slotAt, if_neg (by omega), if_pos h]
/-- From point 4 on all four slots are filled. -/
theorem slots_filled (c : Dev nD) (k : ℕ) (h : 4 ≤ k) : slotAt m c k = landS c (tokens m c) := by
  funext s
  have := s.isLt
  rw [slotAt, if_neg (by omega), if_pos (by omega)]

/-! ## Into the first point and out of the last -/

def H0 : Finset (Ref sig .tc) := {main_arg0}
theorem H0_sub : H0 ⊆ Pipeline.restRefs sig spec0 := by decide
/-- What the launch hands the region, part by part. -/
theorem launch_eq (c : Dev nD) :
    (Pipeline.ΦD osem0 spec0 H0 (V m) c : sProp 𝕄)
      = iprop(iprop((∃ f, held (F := F) c mCache f) ∗ (∃ f, held (F := F) c mRoute f) ∗ (∃ f, held (F := F) c mCnt1 f) ∗ (∃ f, held (F := F) c mCnt2 f) ∗ ∃ f, held (F := F) c mGates f)
          ∗ (∃ r, prngReg c r)
          ∗ iprop(cellP (F := F) c 0 ∗ cellP (F := F) c 1 ∗ cellP (F := F) c 2 ∗ cellP (F := F) c 3)
          ∗ iprop(srcP c (tokens m c) 0 ∗ srcP c (tokens m c) 1 ∗ srcP c (tokens m c) 2 ∗ srcP c (tokens m c) 3)) := by
  rw [Pipeline.ΦD_eq, scopedRest0_eq, ownSems0_cells, ← src_blocks, cellP_dma c 0 _ cellR_0, cellP_dma c 1 _ cellR_1, cellP_dma c 2 _ cellR_2,
    cellP_dma c 3 _ cellR_3, BI.bigSep_eq_bigSepL_of_eq [main_arg0] (by decide) (by decide)]
  rfl

theorem phi_in (c : Dev nD) : Pipeline.ΦD osem0 spec0 H0 (V m) c ⊢ Phi m c 0 := by
  rw [launch_eq]; unfold Phi
  rw [Ring.bigSep_fin4]
  simp only [slotAt, carriedAt, if_true, freeS]
  iintro ⟨⟨HC, HR, H1, H2, HG⟩, Hg, ⟨Hc0, Hc1, Hc2, Hc3⟩, Hx0, Hx1, Hx2, Hx3⟩
  ihave HS := (slots_in c) $$ HC
  icases HS with ⟨Hs0, Hs1, Hs2, Hs3⟩
  isplitl [Hg]; · iexact Hg
  isplitr [HR H1 H2 HG]
  · isplitl [Hc0 Hs0 Hx0]
    · isplitl [Hc0]; · iexact Hc0
      isplitl [Hs0]; · iexact Hs0
      iexact Hx0
    isplitl [Hc1 Hs1 Hx1]
    · isplitl [Hc1]; · iexact Hc1
      isplitl [Hs1]; · iexact Hs1
      iexact Hx1
    isplitl [Hc2 Hs2 Hx2]
    · isplitl [Hc2]; · iexact Hc2
      isplitl [Hs2]; · iexact Hs2
      iexact Hx2
    isplitl [Hc3]; · iexact Hc3
    isplitl [Hs3]; · iexact Hs3
    iexact Hx3
  isplitl [HR]; · iexact HR
  isplitl [H1]; · iexact H1
  isplitl [H2]; · iexact H2
  iexact HG

theorem phi_out (c : Dev nD) : Phi m c 8 ⊢ Pipeline.ΦD osem0 spec0 H0 (V m) c := by
  rw [launch_eq]; unfold Phi
  rw [Ring.bigSep_fin4, slots_filled m c 8 (by decide)]
  simp only [carriedAt, landS, if_neg (show ¬(8 = 0) by decide)]
  iintro ⟨Hg, ⟨⟨Hc0, Hs0, Hx0⟩, ⟨Hc1, Hs1, Hx1⟩, ⟨Hc2, Hs2, Hx2⟩, ⟨Hc3, Hs3, Hx3⟩⟩, ⟨%f, -, HR⟩, H1, H2, HG⟩
  ihave HC := (slots_out (F := F) c) $$ [Hs0 Hs1 Hs2 Hs3]
  · isplitl [Hs0]; · iexists _; iexact Hs0
    isplitl [Hs1]; · iexists _; iexact Hs1
    isplitl [Hs2]; · iexists _; iexact Hs2
    iexists _; iexact Hs3
  isplitr [Hg Hc0 Hc1 Hc2 Hc3 Hx0 Hx1 Hx2 Hx3]
  · isplitl [HC]; · iexact HC
    isplitl [HR]; · iexists _; iexact HR
    isplitl [H1]; · iexists _; iexact H1
    isplitl [H2]; · iexists _; iexact H2
    iexists _; iexact HG
  isplitl [Hg]; · iexact Hg
  isplitl [Hc0 Hc1 Hc2 Hc3]
  · isplitl [Hc0]; · iexact Hc0
    isplitl [Hc1]; · iexact Hc1
    isplitl [Hc2]; · iexact Hc2
    iexact Hc3
  isplitl [Hx0]; · iexact Hx0
  isplitl [Hx1]; · iexact Hx1
  isplitl [Hx2]; · iexact Hx2
  iexact Hx3

end Cert.KernelIdeal.Hand

end
-- ==== Proof.KernelIdeal.RunScale.lean ====
/-
  The second half of the grid: a point reads its block's routing rows, the counts of first choices and its block of
  tokens, and stores the block of the result.
-/
module

public import proofs.«01_k».proof.Proof.KernelIdeal.Slots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- A point of the second half: it stores one block of the result and leaves the rest as it was. -/
theorem run_scale (c : Dev nD) (t : Fin cfg0.N) (arg2 : Memref sig .tc .vmem S16x1024 .f32) (harg2 : arg2.IsWhole)
    (arg3 : Memref sig .tc .vmem S2048x1024 .f32) (harg3 : arg3.IsWhole) (arg4 : Memref sig .tc .vmem S1x1 .f32) (harg4 : arg4.IsWhole)
    (h1 : ¬cond1 (grid0.coords t)) (h2 : ¬k0_cond2 (grid0.coords t) = 1#1) (h4 : k0_cond4 (grid0.coords t) = 1#1)
    (X : BufOf (F := F) c mX) (f3 : BufOf (F := F) c arg3) (f6 : BufOf (F := F) c mRoute) (n1 : Vec F S16x1 .f32) (W : Waits sig Unit) (K : PUnit → sProp 𝕄) :
    iprop(heldOn c arg3 f3 ∗ slotP c (bk t.val) (filled c X (bk t.val)) ∗ held c mRoute f6 ∗ held c mCnt1 n1 ∗ owes (c : Thread nD τ) 0 W
        ∗ (iprop(owns (c : Thread nD τ) arg3 fullShare (k0_pay3 (routeAt c (bk t.val) f6) n1 (xblk c X (bk t.val)))
            ∗ slotP c (bk t.val) (filled c X (bk t.val)) ∗ held c mRoute f6 ∗ held c mCnt1 n1
            ∗ (∃ W', owes (c : Thread nD τ) 0 W')) -∗ K ⟨⟩))
      ⊢ wp frame (wpE (defs₀ (F := F)) Variants.none c none) Set.univ
          (cc0__fused_kernel (grid0.coords t) mX (Memref.isWhole_whole _) arg2 harg2 arg3 harg3 arg4 harg4 mCache (Memref.isWhole_whole _)
            mRoute (Memref.isWhole_whole _) mCnt1 (Memref.isWhole_whole _) mCnt2 (Memref.isWhole_whole _) mGates (Memref.isWhole_whole _) cc0_scratch5) K := by
  haveI : Fact (k0_cond4 (grid0.coords t) = 1#1) := ⟨h4⟩
  simp only [cc0__fused_kernel_eq_skeleton]; unfold cc0__fused_kernel_skel
  iintro ⟨H3, H5, H6, H7, HW, Hk⟩
  sl_exec (disch := first | sl_exact h1 | sl_exact h2 | sl_exact h4)
  sl_step
  iapply Hk
  sl_unfold_run_names
  rw [load_filled c X (bk t.val) (off6_eq t h4), load_all c mCnt1, load_route c (bk t.val) (off5_eq t h4)]
  isplitl [H3]
  · unfold owns; iexists _; isplitr; swap; · iexact H3
    ipureintro
    exact View.read_writes_full arg3.view f3 _ _ []
  isplitl [H5]; · iexact H5
  isplitl [H6]; · iexact H6
  isplitl [H7]; · iexact H7
  iexists _; iexact HW

end Cert.KernelIdeal.Hand

end
-- ==== Proof.KernelIdeal.RunRoute.lean ====
/-
  The first half of the grid: a point waits for its block of tokens, routes it, and adds it to the counts and to the sum of the
  gates.
-/
module

public import proofs.«01_k».proof.Proof.KernelIdeal.Slots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- A point of the first half after the first and before the last: it waits for its block, writes the block's routing rows and
    steps the counts and the sum of the gates. -/
theorem run_route (c : Dev nD) (t : Fin cfg0.N) (arg2 : Memref sig .tc .vmem S16x1024 .f32) (harg2 : arg2.IsWhole)
    (arg3 : Memref sig .tc .vmem S2048x1024 .f32) (harg3 : arg3.IsWhole) (arg4 : Memref sig .tc .vmem S1x1 .f32) (harg4 : arg4.IsWhole)
    (h1 : ¬cond1 (grid0.coords t)) (h2 : k0_cond2 (grid0.coords t) = 1#1) (h3 : ¬k0_cond3 (grid0.coords t) = 1#1) (h4 : ¬k0_cond4 (grid0.coords t) = 1#1)
    (X : BufOf (F := F) c mX) (f2 : BufOf (F := F) c arg2) (f5 : BufOf (F := F) c (slotM (bk t.val))) (f6 : BufOf (F := F) c mRoute)
    (n1 n2 : Vec F S16x1 .f32) (g : Vec F S16x2048 .f32) (W : Waits sig Unit) (K : PUnit → sProp 𝕄) :
    iprop(heldOn c arg2 f2 ∗ flightP c X (bk t.val) f5 ∗ held c mRoute f6 ∗ held c mCnt1 n1 ∗ held c mCnt2 n2 ∗ held c mGates g ∗ owes (c : Thread nD τ) 0 W
        ∗ (iprop(heldOn c arg2 f2 ∗ cellP c (bk t.val) ∗ slotP c (bk t.val) (filled c X (bk t.val)) ∗ srcP c X (bk t.val)
            ∗ held c mRoute (routeSet c (bk t.val) f6 (routeOf (xblk c X (bk t.val)) (arg2.view.read (Elt F) f2) n1 n2))
            ∗ held c mCnt1 (cntStep1 (xblk c X (bk t.val)) (arg2.view.read (Elt F) f2) n1)
            ∗ held c mCnt2 (cntStep2 (xblk c X (bk t.val)) (arg2.view.read (Elt F) f2) n2)
            ∗ held c mGates (gateStep (xblk c X (bk t.val)) (arg2.view.read (Elt F) f2) g)
            ∗ (∃ W', owes (c : Thread nD τ) 0 W')) -∗ K ⟨⟩))
      ⊢ wp frame (wpE (defs₀ (F := F)) Variants.none c none) Set.univ
          (cc0__fused_kernel (grid0.coords t) mX (Memref.isWhole_whole _) arg2 harg2 arg3 harg3 arg4 harg4 mCache (Memref.isWhole_whole _)
            mRoute (Memref.isWhole_whole _) mCnt1 (Memref.isWhole_whole _) mCnt2 (Memref.isWhole_whole _) mGates (Memref.isWhole_whole _) cc0_scratch5) K := by
  haveI : Fact (k0_cond2 (grid0.coords t) = 1#1) := ⟨h2⟩
  have hcell := cell_name t h2
  have hslot := slot_name t h2
  have hsrc := src_name t h2
  simp only [cc0__fused_kernel_eq_skeleton]; unfold cc0__fused_kernel_skel
  iintro ⟨H2, H5, H6, H7, H8, H9, HW, Hk⟩
  sl_exec (disch := first | sl_exact h1 | sl_exact h2 | sl_exact h3 | sl_exact h4)
  sl_step
  iapply Hk
  isplitl [H2]; · iexact H2
  isplitl [H5]; · iexact H5
  isplitl [H5_dst]; · iexact H5_dst
  isplitl [H5_src]; · iexact H5_src
  sl_unfold_run_names
  rw [load_filled c X (bk t.val) (off3_eq t h2), load_all c arg2, load_all c mCnt1, load_all c mCnt2, load_all c mGates, store_route c (bk t.val) (off4_eq t h2),
    store_cnt1 c, store_cnt2 c, store_gates c]
  isplitl [H6]; · iexact H6
  isplitl [H7]; · iexact H7
  isplitl [H8]; · iexact H8
  isplitl [H9]; · iexact H9
  iexists _; iexact HW

end Cert.KernelIdeal.Hand

end
-- ==== Proof.KernelIdeal.RunLoss.lean ====
/-
  The last point of the first half of the grid: a point that routes its block, and then stores the loss from the sum of the gates
  and the counts.
-/
module

public import proofs.«01_k».proof.Proof.KernelIdeal.Slots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The last point of the first half: it routes its block as the points before it do, then stores the loss. -/
theorem run_loss (c : Dev nD) (t : Fin cfg0.N) (arg2 : Memref sig .tc .vmem S16x1024 .f32) (harg2 : arg2.IsWhole)
    (arg3 : Memref sig .tc .vmem S2048x1024 .f32) (harg3 : arg3.IsWhole) (arg4 : Memref sig .tc .vmem S1x1 .f32) (harg4 : arg4.IsWhole)
    (h1 : ¬cond1 (grid0.coords t)) (h2 : k0_cond2 (grid0.coords t) = 1#1) (h3 : k0_cond3 (grid0.coords t) = 1#1) (h4 : ¬k0_cond4 (grid0.coords t) = 1#1)
    (X : BufOf (F := F) c mX) (f2 : BufOf (F := F) c arg2) (f4 : BufOf (F := F) c arg4) (f5 : BufOf (F := F) c (slotM (bk t.val))) (f6 : BufOf (F := F) c mRoute)
    (n1 n2 : Vec F S16x1 .f32) (g : Vec F S16x2048 .f32) (W : Waits sig Unit) (K : PUnit → sProp 𝕄) :
    iprop(heldOn c arg2 f2 ∗ heldOn c arg4 f4 ∗ flightP c X (bk t.val) f5 ∗ held c mRoute f6 ∗ held c mCnt1 n1 ∗ held c mCnt2 n2 ∗ held c mGates g ∗ owes (c : Thread nD τ) 0 W
        ∗ (iprop(heldOn c arg2 f2
            ∗ owns (c : Thread nD τ) arg4 fullShare (k0_pay2 (gateStep (xblk c X (bk t.val)) (arg2.view.read (Elt F) f2) g) (cntStep1 (xblk c X (bk t.val)) (arg2.view.read (Elt F) f2) n1))
            ∗ cellP c (bk t.val) ∗ slotP c (bk t.val) (filled c X (bk t.val)) ∗ srcP c X (bk t.val)
            ∗ held c mRoute (routeSet c (bk t.val) f6 (routeOf (xblk c X (bk t.val)) (arg2.view.read (Elt F) f2) n1 n2))
            ∗ held c mCnt1 (cntStep1 (xblk c X (bk t.val)) (arg2.view.read (Elt F) f2) n1)
            ∗ held c mCnt2 (cntStep2 (xblk c X (bk t.val)) (arg2.view.read (Elt F) f2) n2)
            ∗ held c mGates (gateStep (xblk c X (bk t.val)) (arg2.view.read (Elt F) f2) g)
            ∗ (∃ W', owes (c : Thread nD τ) 0 W')) -∗ K ⟨⟩))
      ⊢ wp frame (wpE (defs₀ (F := F)) Variants.none c none) Set.univ
          (cc0__fused_kernel (grid0.coords t) mX (Memref.isWhole_whole _) arg2 harg2 arg3 harg3 arg4 harg4 mCache (Memref.isWhole_whole _)
            mRoute (Memref.isWhole_whole _) mCnt1 (Memref.isWhole_whole _) mCnt2 (Memref.isWhole_whole _) mGates (Memref.isWhole_whole _) cc0_scratch5) K := by
  haveI : Fact (k0_cond2 (grid0.coords t) = 1#1) := ⟨h2⟩
  have hcell := cell_name t h2
  have hslot := slot_name t h2
  have hsrc := src_name t h2
  simp only [cc0__fused_kernel_eq_skeleton]; unfold cc0__fused_kernel_skel
  iintro ⟨H2, H4, H5, H6, H7, H8, H9, HW, Hk⟩
  sl_exec (disch := first | sl_exact h1 | sl_exact h2 | sl_exact h3 | sl_exact h4)
  sl_step
  iapply Hk
  isplitl [H2]; · iexact H2
  sl_unfold_run_names
  rw [load_filled c X (bk t.val) (off3_eq t h2), load_all c arg2, load_all c mCnt1, load_all c mCnt2, load_all c mGates, store_route c (bk t.val) (off4_eq t h2),
    store_cnt1 c, store_cnt2 c, store_gates c]
  repeat rw [View.readCov_full]
  isplitl [H4]
  · unfold owns; iexists _; isplitr; swap; · iexact H4
    ipureintro
    exact View.read_writes_full arg4.view f4 _ _ []
  isplitl [H5]; · iexact H5
  isplitl [H5_dst]; · iexact H5_dst
  isplitl [H5_src]; · iexact H5_src
  isplitl [H6]; · iexact H6
  isplitl [H7]; · iexact H7
  isplitl [H8]; · iexact H8
  isplitl [H9]; · iexact H9
  iexists _; iexact HW

end Cert.KernelIdeal.Hand

end
-- ==== Proof.KernelIdeal.RunFirst.lean ====
/-
  The first point of the grid: it zeroes the counts and the sum of the gates, starts the transfers of all four blocks of tokens,
  and routes block 0 once it has arrived.
-/
module

public import proofs.«01_k».proof.Proof.KernelIdeal.Slots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The first point: it zeroes the counts and the sum of the gates, starts the transfers of all four blocks, and routes block 0. -/
theorem run_first (c : Dev nD) (t : Fin cfg0.N) (arg2 : Memref sig .tc .vmem S16x1024 .f32) (harg2 : arg2.IsWhole)
    (arg3 : Memref sig .tc .vmem S2048x1024 .f32) (harg3 : arg3.IsWhole) (arg4 : Memref sig .tc .vmem S1x1 .f32) (harg4 : arg4.IsWhole)
    (h1 : cond1 (grid0.coords t)) (h2 : k0_cond2 (grid0.coords t) = 1#1) (h3 : ¬k0_cond3 (grid0.coords t) = 1#1) (h4 : ¬k0_cond4 (grid0.coords t) = 1#1)
    (X : BufOf (F := F) c mX) (f2 : BufOf (F := F) c arg2) (s0 : BufOf (F := F) c (slotM (bk t.val))) (s1 : BufOf (F := F) c (slotM (bk (t.val + 1)))) (s2 : BufOf (F := F) c (slotM (bk (t.val + 2)))) (s3 : BufOf (F := F) c (slotM (bk (t.val + 3)))) (f6 : BufOf (F := F) c mRoute)
    (n1 n2 : Vec F S16x1 .f32) (g : Vec F S16x2048 .f32) (W : Waits sig Unit) (K : PUnit → sProp 𝕄) :
    iprop(heldOn c arg2 f2 ∗ (cellP c (bk t.val) ∗ slotP c (bk t.val) s0 ∗ srcP c X (bk t.val)) ∗ (cellP c (bk (t.val + 1)) ∗ slotP c (bk (t.val + 1)) s1 ∗ srcP c X (bk (t.val + 1))) ∗ (cellP c (bk (t.val + 2)) ∗ slotP c (bk (t.val + 2)) s2 ∗ srcP c X (bk (t.val + 2))) ∗ (cellP c (bk (t.val + 3)) ∗ slotP c (bk (t.val + 3)) s3 ∗ srcP c X (bk (t.val + 3))) ∗ held c mRoute f6 ∗ held c mCnt1 n1 ∗ held c mCnt2 n2 ∗ held c mGates g ∗ owes (c : Thread nD τ) 0 W
        ∗ (iprop(heldOn c arg2 f2 ∗ cellP c (bk t.val) ∗ slotP c (bk t.val) (filled c X (bk t.val)) ∗ srcP c X (bk t.val) ∗ flyS c X (bk (t.val + 1)) ∗ flyS c X (bk (t.val + 2)) ∗ flyS c X (bk (t.val + 3))
            ∗ held c mRoute (routeSet c (bk t.val) f6 (routeOf (xblk c X (bk t.val)) (arg2.view.read (Elt F) f2) k0_pay4 k0_pay5))
            ∗ held c mCnt1 (cntStep1 (xblk c X (bk t.val)) (arg2.view.read (Elt F) f2) k0_pay4)
            ∗ held c mCnt2 (cntStep2 (xblk c X (bk t.val)) (arg2.view.read (Elt F) f2) k0_pay5)
            ∗ held c mGates (gateStep (xblk c X (bk t.val)) (arg2.view.read (Elt F) f2) k0_pay6)
            ∗ (∃ W', owes (c : Thread nD τ) 0 W')) -∗ K ⟨⟩))
      ⊢ wp frame (wpE (defs₀ (F := F)) Variants.none c none) Set.univ
          (cc0__fused_kernel (grid0.coords t) mX (Memref.isWhole_whole _) arg2 harg2 arg3 harg3 arg4 harg4 mCache (Memref.isWhole_whole _)
            mRoute (Memref.isWhole_whole _) mCnt1 (Memref.isWhole_whole _) mCnt2 (Memref.isWhole_whole _) mGates (Memref.isWhole_whole _) cc0_scratch5) K := by
  haveI : Fact (k0_cond2 (grid0.coords t) = 1#1) := ⟨h2⟩
  have hcell := cell_name t h2
  have hslot := slot_name t h2
  have hsrc := src_name t h2
  have hslot0 := slot_lit0 t h1
  have hsrc0 := src_lit0 t h1
  have hcell0 := cell_lit0 t h1
  have hslot1 := slot_lit1 t h1
  have hsrc1 := src_lit1 t h1
  have hcell1 := cell_lit1 t h1
  have hslot2 := slot_lit2 t h1
  have hsrc2 := src_lit2 t h1
  have hcell2 := cell_lit2 t h1
  have hslot3 := slot_lit3 t h1
  have hsrc3 := src_lit3 t h1
  have hcell3 := cell_lit3 t h1
  simp only [cc0__fused_kernel_eq_skeleton]; unfold cc0__fused_kernel_skel
  iintro ⟨H2, ⟨Hc0, Hs0, Hx0⟩, ⟨Hc1, Hs1, Hx1⟩, ⟨Hc2, Hs2, Hx2⟩, ⟨Hc3, Hs3, Hx3⟩, H6, H7, H8, H9, HW, Hk⟩
  sl_exec (disch := first | sl_exact h1 | sl_exact h2 | sl_exact h3 | sl_exact h4)
  sl_step
  iapply Hk
  isplitl [H2]; · iexact H2
  sl_unfold_run_names
  isplitl [Hc0]; · iexact Hc0
  isplitl [Hs0]; · iexact Hs0
  isplitl [Hx0]; · iexact Hx0
  isplitl [Hc1]; · unfold flyS; iexists _; iexact Hc1
  isplitl [Hc2]; · unfold flyS; iexists _; iexact Hc2
  isplitl [Hc3]; · unfold flyS; iexists _; iexact Hc3
  rw [load_filled c X (bk t.val) (off3_eq t h2), load_all c arg2, store_route c (bk t.val) (off4_eq t h2), store_cnt1 c, store_cnt2 c, store_gates c]
  repeat rw [View.readCov_full]
  isplitl [H6]; · iexact H6
  isplitl [H7]; · iexact H7
  isplitl [H8]; · iexact H8
  isplitl [H9]; · iexact H9
  iexists _; iexact HW

end Cert.KernelIdeal.Hand

end
-- ==== Proof.KernelIdeal.Frame.lean ====
/-
  Every run of the program: no argument changes, the semaphores are free again, and the result arrays hold the blocks the
  points wrote.
-/
module

public import proofs.«01_k».proof.Proof.KernelIdeal.Between
public import proofs.«01_k».proof.Proof.KernelIdeal.RunScale
public import proofs.«01_k».proof.Proof.KernelIdeal.RunRoute
public import proofs.«01_k».proof.Proof.KernelIdeal.RunLoss
public import proofs.«01_k».proof.Proof.KernelIdeal.RunFirst
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The windows' trajectories: the gating matrix stays; point `t` of the second half writes block `t - 4` of the result; the loss,
    once written, stays. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outV (blkOf m c) (wgOf m c) (t.val - 4)
    | ⟨2, _⟩ => lossV (blkOf m c) (wgOf m c)
  Φ t := Phi m c t.val
  q _ := fullShare
  owed _ := 0

theorem A_eq (c : Dev nD) (w : Fin cfg0.W) : (dats m 0 c).A w = V m c (Pipeline.arrRef spec0 w) := by dsimp only [dats]
theorem after_out (c : Dev nD) (t : Fin cfg0.N) : (dats m 0 c).after 1 t = outV (blkOf m c) (wgOf m c) (t.val - 4) := by dsimp only [dats]
theorem after_loss (c : Dev nD) (t : Fin cfg0.N) : (dats m 0 c).after 2 t = lossV (blkOf m c) (wgOf m c) := by dsimp only [dats]
theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]

theorem before_wg (c : Dev nD) (t : Fin cfg0.N) (d) : (dats m 0 c).before 0 t d = iblk m c 0 t :=
  ((dats m 0 c).before_in_eq_fetched 0 rfl (fun _ => rfl) (fun _ _ _ => rfl) (fun t => by rw [show (dats m 0 c).after 0 t = iblk m c 0 t from rfl]; unfold Dat.blockOf iblk; rw [A_eq]; try rfl) t d).trans
    (by unfold Dat.fetched Dat.blockOf iblk; rw [A_eq]; try rfl)

/-! ## Where each result window is left alone -/

theorem idle_out : ∀ t : Fin cfg0.N, t.val < 4 → cfg0.idle 1 (cfg0.grid.coords t) = true := by decide
theorem busy_out : ∀ t : Fin cfg0.N, 4 ≤ t.val → cfg0.idle 1 (cfg0.grid.coords t) = false := by decide
theorem stay_out : ∀ t : Fin cfg0.N, t.val < 4 → (cfg0.win 1).flush t = false := by decide
theorem idle_loss : ∀ t : Fin cfg0.N, t.val ≠ 3 → cfg0.idle 2 (cfg0.grid.coords t) = true := by decide
theorem busy_loss : ∀ t : Fin cfg0.N, t.val = 3 → cfg0.idle 2 (cfg0.grid.coords t) = false := by decide
theorem stay_loss : ∀ t : Fin cfg0.N, t.val ≠ 7 → (cfg0.win 2).flush t = false := by decide
theorem sent_loss : ∀ t : Fin cfg0.N, t.val = 7 → (cfg0.win 2).flush t = true := by decide
/-- Nothing has written the loss's buffer before point 4. -/
theorem fresh_loss : ∀ n, n ≤ cfg0.N → cfg0.fresh 2 n = decide (n ≤ 3 ∨ n = 8) :=
  cfg0.fresh_tab 2 (fun n => decide (n ≤ 3 ∨ n = 8)) rfl (by decide)
theorem before_loss (c : Dev nD) (t : Fin cfg0.N) (h : t.val = 7) (d) : (dats m 0 c).before 2 t d = lossV (blkOf m c) (wgOf m c) := by
  rw [(dats m 0 c).before_out_traj 2 rfl (fun _ _ => rfl) (fun _ _ _ _ => rfl) t.val t rfl d, fresh_loss _ t.isLt.le, if_neg (by rw [h]; decide), after_loss]

/-! ## The body at any point -/

/-- The body's row of the table of bodies. -/
theorem defs₀_row (t : Fin cfg0.N) : defs₀ (F := F) .tc cfg0.body (cfg0.bodyArgs t (cfg0.slots t)) = bodyAt0 t := by
  unfold defs₀; rw [Defs.onTc_tc]

omit [FloatOps F] in
/-- A staging buffer owned at a value is the buffer at some contents that read as the value, and back. -/
theorem owns_out {c : Dev nD} {sh : Shape} {e : EltTy} {M : Memref sig .tc .vmem sh e} {d : sh.Idx → Elt F e} :
    (owns (c : Thread nD τ) M fullShare d : sProp 𝕄) ⊢ iprop(∃ f, ⌜M.view.read (Elt F) f = d⌝ ∗ heldOn c M f) := by
  unfold owns; exact .rfl
omit [FloatOps F] in
theorem owns_in {c : Dev nD} {sh : Shape} {e : EltTy} {M : Memref sig .tc .vmem sh e} {d : sh.Idx → Elt F e} {f : BufOf (F := F) c M}
    (h : M.view.read (Elt F) f = d) : heldOn c M f ⊢ (owns (c : Thread nD τ) M fullShare d : sProp 𝕄) := by
  unfold owns
  iintro H
  iexists f
  isplitr; · ipureintro; exact h
  iexact H

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ (dats m 0 c).leavesExact 1 t ∗ (dats m 0 c).leavesExact 2 t)

theorem leaves_out_idle (c : Dev nD) (t : Fin cfg0.N) (h : t.val < 4) :
    (dats m 0 c).leavesExact 1 t = iprop(∃ d, owns (c : Thread nD τ) (st0_1 t) fullShare ((dats m 0 c).before 1 t d)) :=
  (dats m 0 c).leavesExact_idle 1 t (idle_out t h) (stay_out t h)
theorem leaves_out (c : Dev nD) (t : Fin cfg0.N) (h : 4 ≤ t.val) :
    (dats m 0 c).leavesExact 1 t = owns (c : Thread nD τ) (st0_1 t) fullShare (outV (blkOf m c) (wgOf m c) (t.val - 4)) := by
  unfold Dat.leavesExact; rw [busy_out t h]; dsimp only [dats]
theorem leaves_loss_idle (c : Dev nD) (t : Fin cfg0.N) (h : t.val ≠ 3) (h' : t.val ≠ 7) :
    (dats m 0 c).leavesExact 2 t = iprop(∃ d, owns (c : Thread nD τ) (st0_2 t) fullShare ((dats m 0 c).before 2 t d)) :=
  (dats m 0 c).leavesExact_idle 2 t (idle_loss t h) (stay_loss t h')
theorem leaves_loss (c : Dev nD) (t : Fin cfg0.N) (h : t.val = 3) :
    (dats m 0 c).leavesExact 2 t = owns (c : Thread nD τ) (st0_2 t) fullShare (lossV (blkOf m c) (wgOf m c)) := by
  unfold Dat.leavesExact; rw [busy_loss t h]; dsimp only [dats]
theorem leaves_loss_last (c : Dev nD) (t : Fin cfg0.N) (h : t.val = 7) :
    (dats m 0 c).leavesExact 2 t = owns (c : Thread nD τ) (st0_2 t) fullShare (lossV (blkOf m c) (wgOf m c)) := by
  unfold Dat.leavesExact; rw [idle_loss t (by omega), sent_loss t h]; dsimp only [dats]

/-- The rows found after block `n` is routed: those of the blocks before, and block `n`'s own. -/
theorem rows_next (c : Dev nD) (n : ℕ) (h4 : n < 4) (f : BufOf (F := F) c mRoute)
    (hf : ∀ i, i < n → routeAt c (bk i) f = route (blkOf m c) (wgOf m c) i) :
    ∀ i, i < min (n + 1) 4 → routeAt c (bk i) (routeSet c (bk n) f (route (blkOf m c) (wgOf m c) n)) = route (blkOf m c) (wgOf m c) i := by
  intro i hi
  by_cases hin : i = n
  · subst hin; exact routeAt_set_self c _ _ _
  · rw [routeAt_set_ne c (bk n) (bk i) (by intro e; have := congrArg Fin.val e; simp only [bk] at this; omega) f]
    exact hf i (by omega)

set_option maxHeartbeats 1600000 in
/-- The body at any point: the point's case says which run applies, and what the run hands back is what holds at the next point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_castSucc m c t, Phi_succ m c t]
  simp only [before_wg m c t]
  unfold Dat.owesAt Pipeline.owesWithin
  rw [show (dats m 0 c).owed t.castSucc = 0 from rfl, show (dats m 0 c).owed t.succ = 0 from rfl]
  unfold Phi
  have hN : t.val < 8 := lt_of_lt_of_eq t.isLt (show cfg0.N = 8 from N_0)
  have hwg : ∀ f, (win0_0.stage (cfg0.slots t 0)).view.read (Elt F) f = iblk m c 0 t → (win0_0.stage (cfg0.slots t 0)).view.read (Elt F) f = wgOf m c :=
    fun f h => h.trans (iblk_wg m c t)
  by_cases h4 : 4 ≤ t.val
  · -- the second half: the rows are read and the block is scaled
    rw [slots_land m c t.val (bk t.val) (by have := (bk t.val).isLt; omega), slots_land m c (t.val + 1) (bk t.val) (by have := (bk t.val).isLt; omega),
      show slotAt m c t.val = slotAt m c (t.val + 1) by rw [slots_filled m c _ h4, slots_filled m c _ (by omega)],
      leaves_out m c t h4]
    have hbk : bk t.val = bk (t.val - 4) := Fin.ext (by simp only [bk]; omega)
    have hloss : iprop(∃ d, owns (c : Thread nD τ) (st0_2 t) fullShare ((dats m 0 c).before 2 t d)) ⊢ (dats m 0 c).leavesExact 2 t := by
      by_cases h7 : t.val = 7
      · rw [leaves_loss_last m c t h7]
        simp only [before_loss m c t h7]
        iintro ⟨%d, H⟩; iexact H
      · rw [leaves_loss_idle m c t (by omega) h7]
    unfold carriedAt
    rw [if_neg (by omega), if_neg (by omega), min_eq_right h4, min_eq_right (show 4 ≤ t.val + 1 by omega)]
    unfold landS
    iintro ⟨⟨Hg, ⟨⟨Hc, Hs, Hx⟩, Hrest⟩, ⟨%f6, %hf6, HR⟩, H1, H2, HG⟩, ⟨%W, -, HW⟩, ⟨%d0, H0⟩, ⟨%d1, Ho⟩, Hl⟩
    ihave Ho := owns_out $$ Ho
    icases Ho with ⟨%f3, -, Ho⟩
    ihave Hl := hloss $$ Hl
    iapply (run_scale c t _ _ _ _ _ _ (fun h => by have := (cond1_iff t).mp h; omega) (fun h => by have := (cond2_iff t).mp h; omega) ((cond4_iff t).mpr h4)
      (tokens m c) f3 f6 (cnt1 (blkOf m c) (wgOf m c) 4) W _)
    isplitl [Ho]; · iexact Ho
    isplitl [Hs]; · iexact Hs
    isplitl [HR]; · iexact HR
    isplitl [H1]; · iexact H1
    isplitl [HW]; · iexact HW
    iintro ⟨Ho, Hs, HR, H1, ⟨%W', HW'⟩⟩
    isplitl [Hg Hc Hs Hx Hrest HR H1 H2 HG]
    · isplitl [Hg]; · iexact Hg
      isplitl [Hc Hs Hx Hrest]
      · isplitl [Hc Hs Hx]
        · isplitl [Hc]; · iexact Hc
          isplitl [Hs]; · iexact Hs
          iexact Hx
        iexact Hrest
      isplitl [HR]
      · iexists f6; isplitr; · ipureintro; exact hf6
        iexact HR
      isplitl [H1]; · iexact H1
      isplitl [H2]; · iexact H2
      iexact HG
    isplitl [HW']
    · iexists W'; isplitr; · ipureintro; exact fun _ _ => Or.inl trivial
      iexact HW'
    isplitl [H0]; · iexact H0
    isplitl [Ho]
    · rw [hbk, hf6 (t.val - 4) (by omega)]
      iexact Ho
    iexact Hl
  · have h4 : t.val < 4 := by omega
    rw [leaves_out_idle m c t h4]
    have hc2 := (cond2_iff t).mpr h4
    have hc4 : ¬k0_cond4 (grid0.coords t) = 1#1 := fun h => by have := (cond4_iff t).mp h; omega
    by_cases h0 : t.val = 0
    · -- the first point
      have s0 : ∀ s, slotAt m c 0 s = freeS c (tokens m c) s := fun s => if_pos rfl
      have s1 : ∀ s : Fin 4, 1 ≤ s.val → slotAt m c 1 s = flyS c (tokens m c) s := fun s h => by
        rw [slotAt, if_neg Nat.one_ne_zero, if_neg (by omega)]
      have s1' : slotAt m c 1 0 = landS c (tokens m c) 0 := by rw [slotAt, if_neg Nat.one_ne_zero, if_pos (by decide)]
      have b0 : bk t.val = 0 := by rw [h0]; rfl
      have b1 : bk (t.val + 1) = 1 := by rw [h0]; rfl
      have b2 : bk (t.val + 2) = 2 := by rw [h0]; rfl
      have b3 : bk (t.val + 3) = 3 := by rw [h0]; rfl
      have hrun := run_first (F := F) c t (win0_0.stage (cfg0.slots t 0)) (hstage0_0 ((cfg0.slots t 0).cast nbuf0_0))
        (win0_1.stage (cfg0.slots t 1)) (hstage0_1 ((cfg0.slots t 1).cast nbuf0_1)) (win0_2.stage (cfg0.slots t 2)) (hstage0_2 ((cfg0.slots t 2).cast nbuf0_2))
        ((cond1_iff t).mpr h0) hc2 (fun h => by have := (cond3_iff t).mp h; omega) hc4 (tokens m c)
      rw [b0, b1, b2, b3] at hrun
      rw [leaves_loss_idle m c t (by omega) (by omega), Ring.bigSep_fin4, Ring.bigSep_fin4, h0, s0, s0, s0, s0, s1', s1 1 (by decide), s1 2 (by decide),
        s1 3 (by decide)]
      unfold carriedAt
      rw [if_pos rfl, if_neg (by decide), show min (0 + 1) 4 = 1 from rfl]
      unfold freeS landS
      iintro ⟨⟨Hg, ⟨⟨Hc0, ⟨%a0, Hs0⟩, Hx0⟩, ⟨Hc1, ⟨%a1, Hs1⟩, Hx1⟩, ⟨Hc2, ⟨%a2, Hs2⟩, Hx2⟩, ⟨Hc3, ⟨%a3, Hs3⟩, Hx3⟩⟩, ⟨%f6, HR⟩, ⟨%n1, H1⟩, ⟨%n2, H2⟩, ⟨%g, HG⟩⟩, ⟨%W, -, HW⟩, ⟨%d0, H0⟩, Ho, Hl⟩
      ihave H0 := owns_out $$ H0
      icases H0 with ⟨%f2, %hf2, H0⟩
      have e := hwg f2 hf2
      iapply (hrun f2 a0 a1 a2 a3 f6 n1 n2 g W _)
      rw [e]
      isplitl [H0]; · iexact H0
      isplitl [Hc0 Hs0 Hx0]
      · isplitl [Hc0]; · iexact Hc0
        isplitl [Hs0]; · iexact Hs0
        iexact Hx0
      isplitl [Hc1 Hs1 Hx1]
      · isplitl [Hc1]; · iexact Hc1
        isplitl [Hs1]; · iexact Hs1
        iexact Hx1
      isplitl [Hc2 Hs2 Hx2]
      · isplitl [Hc2]; · iexact Hc2
        isplitl [Hs2]; · iexact Hs2
        iexact Hx2
      isplitl [Hc3 Hs3 Hx3]
      · isplitl [Hc3]; · iexact Hc3
        isplitl [Hs3]; · iexact Hs3
        iexact Hx3
      isplitl [HR]; · iexact HR
      isplitl [H1]; · iexact H1
      isplitl [H2]; · iexact H2
      isplitl [HG]; · iexact HG
      isplitl [HW]; · iexact HW
      iintro ⟨H0, Hc, Hs, Hx, Hf1, Hf2, Hf3, HR, H1, H2, HG, ⟨%W', HW'⟩⟩
      isplitl [Hg Hc Hs Hx Hf1 Hf2 Hf3 HR H1 H2 HG]
      · isplitl [Hg]; · iexact Hg
        isplitl [Hc Hs Hx Hf1 Hf2 Hf3]
        · isplitl [Hc Hs Hx]
          · isplitl [Hc]; · iexact Hc
            isplitl [Hs]; · iexact Hs
            iexact Hx
          isplitl [Hf1]; · iexact Hf1
          isplitl [Hf2]; · iexact Hf2
          iexact Hf3
        isplitl [HR]
        · iexists _; isplitr; swap; · iexact HR
          ipureintro; exact fun i hi => rows_next m c 0 (by decide) f6 (fun i hi => absurd hi (Nat.not_lt_zero i)) i (by omega)
        isplitl [H1]; · iexact H1
        isplitl [H2]; · iexact H2
        iexact HG
      isplitl [HW']
      · iexists W'; isplitr; · ipureintro; exact fun _ _ => Or.inl trivial
        iexact HW'
      isplitl [H0]
      · iapply (owns_in hf2); iexact H0
      isplitl [Ho]; · iexact Ho
      iexact Hl
    · have hc1 : ¬cond1 (grid0.coords t) := fun h => h0 ((cond1_iff t).mp h)
      rw [slots_route m c t.val h0 h4, slots_land m c (t.val + 1) (bk t.val) (by show t.val % 4 < t.val + 1; omega)]
      unfold carriedAt
      rw [if_neg h0, if_neg (by omega), min_eq_left (show t.val ≤ 4 by omega), min_eq_left (show t.val + 1 ≤ 4 by omega)]
      unfold landS flyS
      by_cases h3 : t.val = 3
      · rw [leaves_loss m c t h3]
        iintro ⟨⟨Hg, ⟨⟨%f5, Hf⟩, Hrest⟩, ⟨%f6, %hf6, HR⟩, H1, H2, HG⟩, ⟨%W, -, HW⟩, ⟨%d0, H0⟩, Ho, ⟨%d2, Hl⟩⟩
        ihave H0 := owns_out $$ H0
        ihave Hl := owns_out $$ Hl
        icases H0 with ⟨%f2, %hf2, H0⟩
        icases Hl with ⟨%f4, -, Hl⟩
        have e := hwg f2 hf2
        iapply (run_loss c t _ _ _ _ _ _ hc1 hc2 ((cond3_iff t).mpr h3) hc4
          (tokens m c) f2 f4 f5 f6 (cnt1 (blkOf m c) (wgOf m c) t.val) (cnt2 (blkOf m c) (wgOf m c) t.val) (gateSum (blkOf m c) (wgOf m c) t.val) W _)
        rw [e]
        isplitl [H0]; · iexact H0
        isplitl [Hl]; · iexact Hl
        isplitl [Hf]; · iexact Hf
        isplitl [HR]; · iexact HR
        isplitl [H1]; · iexact H1
        isplitl [H2]; · iexact H2
        isplitl [HG]; · iexact HG
        isplitl [HW]; · iexact HW
        iintro ⟨H0, Hl, Hc, Hs, Hx, HR, H1, H2, HG, ⟨%W', HW'⟩⟩
        isplitl [Hg Hc Hs Hx Hrest HR H1 H2 HG]
        · isplitl [Hg]; · iexact Hg
          isplitl [Hc Hs Hx Hrest]
          · isplitl [Hc Hs Hx]
            · isplitl [Hc]; · iexact Hc
              isplitl [Hs]; · iexact Hs
              iexact Hx
            iexact Hrest
          isplitl [HR]
          · iexists _; isplitr; swap; · iexact HR
            ipureintro; exact fun i hi => rows_next m c t.val h4 f6 hf6 i (by omega)
          isplitl [H1]; · iexact H1
          isplitl [H2]; · iexact H2
          iexact HG
        isplitl [HW']
        · iexists W'; isplitr; · ipureintro; exact fun _ _ => Or.inl trivial
          iexact HW'
        isplitl [H0]
        · iapply (owns_in hf2); iexact H0
        isplitl [Ho]; · iexact Ho
        rw [show lossV (blkOf m c) (wgOf m c) = k0_pay2 (gateStep (xblk c (tokens m c) (bk t.val)) (wgOf m c) (gateSum (blkOf m c) (wgOf m c) t.val))
            (cntStep1 (xblk c (tokens m c) (bk t.val)) (wgOf m c) (cnt1 (blkOf m c) (wgOf m c) t.val)) by rw [h3]; rfl]
        iexact Hl
      · rw [leaves_loss_idle m c t h3 (by omega)]
        iintro ⟨⟨Hg, ⟨⟨%f5, Hf⟩, Hrest⟩, ⟨%f6, %hf6, HR⟩, H1, H2, HG⟩, ⟨%W, -, HW⟩, ⟨%d0, H0⟩, Ho, Hl⟩
        ihave H0 := owns_out $$ H0
        icases H0 with ⟨%f2, %hf2, H0⟩
        have e := hwg f2 hf2
        iapply (run_route c t _ _ _ _ _ _ hc1 hc2 (fun h => h3 ((cond3_iff t).mp h)) hc4
          (tokens m c) f2 f5 f6 (cnt1 (blkOf m c) (wgOf m c) t.val) (cnt2 (blkOf m c) (wgOf m c) t.val) (gateSum (blkOf m c) (wgOf m c) t.val) W _)
        rw [e]
        isplitl [H0]; · iexact H0
        isplitl [Hf]; · iexact Hf
        isplitl [HR]; · iexact HR
        isplitl [H1]; · iexact H1
        isplitl [H2]; · iexact H2
        isplitl [HG]; · iexact HG
        isplitl [HW]; · iexact HW
        iintro ⟨H0, Hc, Hs, Hx, HR, H1, H2, HG, ⟨%W', HW'⟩⟩
        isplitl [Hg Hc Hs Hx Hrest HR H1 H2 HG]
        · isplitl [Hg]; · iexact Hg
          isplitl [Hc Hs Hx Hrest]
          · isplitl [Hc Hs Hx]
            · isplitl [Hc]; · iexact Hc
              isplitl [Hs]; · iexact Hs
              iexact Hx
            iexact Hrest
          isplitl [HR]
          · iexists _; isplitr; swap; · iexact HR
            ipureintro; exact fun i hi => rows_next m c t.val h4 f6 hf6 i (by omega)
          isplitl [H1]; · iexact H1
          isplitl [H2]; · iexact H2
          iexact HG
        isplitl [HW']
        · iexists W'; isplitr; · ipureintro; exact fun _ _ => Or.inl trivial
          iexact HW'
        isplitl [H0]
        · iapply (owns_in hf2); iexact H0
        isplitl [Ho]; · iexact Ho
        iexact Hl

/-- The body obligation, at every point. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ## The run -/

/-- `main` around the region, in this certificate's ghost state. -/
theorem main_around : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [] [hostOps1] (by simp only [List.Forall])
    (by simp only [List.Forall]) main_chain

/-- The reshape after the region touches the loss only. -/
theorem tail_sub : ∀ ops ∈ ([hostOps1] : List (List (HloOp τ sig (Elt F)))), ∀ op ∈ ops,
    op.bufs ⊆ Pipeline.tailRefsBut sig Pipeline.Prefetch.none spec0 H0 := by
  have hsub : ({main_call0_v0_1, main_v0_1} : Finset (Ref sig .tc))
      ⊆ Finset.univ.image (Pipeline.arrRef spec0) ∪ (Pipeline.restRefsP sig Pipeline.Prefetch.none spec0 \ H0) := by decide
  intro ops hops op hop
  simp only [List.mem_cons, List.mem_nil_iff, or_false] at hops
  subst hops
  simp only [hostOps1, List.mem_cons, List.mem_nil_iff, or_false] at hop
  subst hop
  intro b hb
  unfold Pipeline.tailRefsBut
  simp only [StableHlo.reshape_bufs, Finset.mem_insert, Finset.mem_singleton] at hb
  rcases hb with rfl | rfl
  · exact Finset.mem_map_of_mem _ (hsub (by decide))
  · exact Finset.mem_map_of_mem _ (hsub (by decide))

set_option backward.isDefEq.respectTransparency.types false in
/-- Every run ends with the arrays at what the points' blocks make of them, and every semaphore free. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose)
    (hshare := fun c w => (dats m 0 c).share_full (fun _ => rfl) w)
    (howed := fun _ _ => rfl)
    (V₀ := V0 m) (opss := [hostOps1]) (hsub := tail_sub) (hfresh := sfx_fresh) (hkeep := sfx_keeps)
    (hmain := main_around m)
    (hA := fun c w => A_eq m c w)
    (hin := fun c => phi_in m c)
    (hout := fun c => phi_out m c)
    (hQ' := fun _ h => h)

/-- Nothing after the region writes the tokens' array. -/
theorem rest_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall,
        StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- What a run's end says about the arguments. -/
theorem args_kept {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide))).trans (rest_arg0 m c),
    ((h c).1 0).trans (((dats m 0 c).arrAt_in 0 rfl _).trans ((A_eq m c 0).trans (V_main_arg1 m c)))⟩

/-- Every run ends with its arguments unchanged and every semaphore free. -/
theorem quiescent : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨args_kept m h.1, h.2⟩) (run_main m ρ)

end Cert.KernelIdeal.Hand

end
-- ==== Proof.Value.Choice.lean ====
module

public import Mathlib.Data.EReal.Operations
public import Mathlib.Analysis.SpecialFunctions.Exp
public import Mathlib.Data.Finset.Max
public import Mathlib.Data.Finset.Fold

/-!
The two experts of a token. Of sixteen numbers the best is the greatest, and among equal ones the one of lowest
index; the second best is the best of the fifteen others. A strictly monotone change of the numbers changes neither,
so the softmax of the logits has the same two as the logits.
-/

@[expose] public section

noncomputable section

namespace Cert.MoE

/-- `i` is the best of the indices in `S`: in `S`, its number the greatest there, and the lowest of those that hold it. -/
def IsBest (S : Finset (Fin 16)) (l : Fin 16 → ℝ) (i : Fin 16) : Prop :=
  i ∈ S ∧ ∀ e ∈ S, l e < l i ∨ (l e = l i ∧ i ≤ e)

theorem exists_isBest (S : Finset (Fin 16)) (hS : S.Nonempty) (l : Fin 16 → ℝ) : ∃ i, IsBest S l i := by
  obtain ⟨m, hm, hmax⟩ := S.exists_max_image l hS
  have hT : (S.filter fun e => l e = l m).Nonempty := ⟨m, Finset.mem_filter.2 ⟨hm, rfl⟩⟩
  have hmem := Finset.mem_filter.1 (Finset.min'_mem _ hT)
  refine ⟨(S.filter fun e => l e = l m).min' hT, hmem.1, fun e he => ?_⟩
  rw [hmem.2]
  rcases lt_or_eq_of_le (hmax e he) with h | h
  · exact Or.inl h
  · exact Or.inr ⟨h, Finset.min'_le _ _ (Finset.mem_filter.2 ⟨he, h⟩)⟩

theorem IsBest.unique {S : Finset (Fin 16)} {l : Fin 16 → ℝ} {i j : Fin 16} (hi : IsBest S l i) (hj : IsBest S l j) :
    i = j := by
  rcases hi.2 j hj.1 with h | ⟨h, hij⟩ <;> rcases hj.2 i hi.1 with h' | ⟨h', hji⟩
  · exact absurd h' (not_lt.2 h.le)
  · exact absurd h (by rw [h']; exact lt_irrefl _)
  · exact absurd h' (by rw [h]; exact lt_irrefl _)
  · exact le_antisymm hij hji

/-- The best stays the best when every comparison stays. -/
theorem IsBest.mono {S : Finset (Fin 16)} {l g : Fin 16 → ℝ} {i : Fin 16} (hlg : ∀ a b, l a < l b ↔ g a < g b)
    (hi : IsBest S l i) : IsBest S g i := by
  refine ⟨hi.1, fun e he => ?_⟩
  rcases hi.2 e he with h | ⟨h, hie⟩
  · exact Or.inl ((hlg _ _).1 h)
  · refine Or.inr ⟨le_antisymm (not_lt.1 fun h' => ?_) (not_lt.1 fun h' => ?_), hie⟩
    · exact absurd ((hlg _ _).2 h') (by rw [h]; exact lt_irrefl _)
    · exact absurd ((hlg _ _).2 h') (by rw [h]; exact lt_irrefl _)

theorem IsBest.le {S : Finset (Fin 16)} {l : Fin 16 → ℝ} {i : Fin 16} (hi : IsBest S l i) {e : Fin 16} (he : e ∈ S) :
    l e ≤ l i := (hi.2 e he).elim le_of_lt fun h => h.1.le

/-- The token's first expert. -/
def first (l : Fin 16 → ℝ) : Fin 16 := (exists_isBest Finset.univ Finset.univ_nonempty l).choose

theorem others_nonempty (i : Fin 16) : (Finset.univ.erase i).Nonempty :=
  ⟨i + 1, Finset.mem_erase.2 ⟨by revert i; decide, Finset.mem_univ _⟩⟩

/-- The token's second expert. -/
def second (l : Fin 16 → ℝ) : Fin 16 :=
  (exists_isBest (Finset.univ.erase (first l)) (others_nonempty _) l).choose

theorem first_spec (l : Fin 16 → ℝ) : IsBest Finset.univ l (first l) :=
  (exists_isBest Finset.univ Finset.univ_nonempty l).choose_spec

theorem second_spec (l : Fin 16 → ℝ) : IsBest (Finset.univ.erase (first l)) l (second l) :=
  (exists_isBest (Finset.univ.erase (first l)) (others_nonempty _) l).choose_spec

theorem second_ne_first (l : Fin 16 → ℝ) : second l ≠ first l := Finset.ne_of_mem_erase (second_spec l).1

/-- The greatest logit subtracted, exponentials. -/
def expo (l : Fin 16 → ℝ) (e : Fin 16) : ℝ := Real.exp (l e - l (first l))

/-- The softmax of the logits. -/
def gate (l : Fin 16 → ℝ) (e : Fin 16) : ℝ := expo l e * (1 / ∑ e', expo l e')

theorem sum_expo_pos (l : Fin 16 → ℝ) : 0 < ∑ e, expo l e :=
  Finset.sum_pos (fun _ _ => Real.exp_pos _) Finset.univ_nonempty

theorem gate_pos (l : Fin 16 → ℝ) (e : Fin 16) : 0 < gate l e :=
  mul_pos (Real.exp_pos _) (one_div_pos.2 (sum_expo_pos l))

theorem gate_lt (l : Fin 16 → ℝ) (a b : Fin 16) : l a < l b ↔ gate l a < gate l b := by
  unfold gate
  rw [mul_lt_mul_iff_left₀ (one_div_pos.2 (sum_expo_pos l))]
  unfold expo
  rw [Real.exp_lt_exp, sub_lt_sub_iff_right]

theorem first_gate (l : Fin 16 → ℝ) : IsBest Finset.univ (gate l) (first l) := (first_spec l).mono (gate_lt l)

theorem second_gate (l : Fin 16 → ℝ) : IsBest (Finset.univ.erase (first l)) (gate l) (second l) :=
  (second_spec l).mono (gate_lt l)

/-- A fold of `max` from the bottom is the value at an index that no other exceeds. -/
theorem fold_max_eq {n : Nat} (f : Fin n → EReal) (i : Fin n) (h : ∀ e, f e ≤ f i) :
    Finset.univ.fold max ⊥ f = f i := by
  refine le_antisymm ((Finset.fold_max_le _).2 ⟨bot_le, fun e _ => h e⟩) ?_
  exact (Finset.le_fold_max _).2 (Or.inr ⟨i, Finset.mem_univ _, le_rfl⟩)

/-- The greatest logit. -/
theorem fold_max_logits (l : Fin 16 → ℝ) : Finset.univ.fold max ⊥ (fun e => ((l e : ℝ) : EReal)) = (l (first l) : EReal) :=
  fold_max_eq _ (first l) fun e => EReal.coe_le_coe_iff.2 ((first_spec l).le (Finset.mem_univ e))

/-- The greatest gate. -/
theorem fold_max_gates (l : Fin 16 → ℝ) :
    Finset.univ.fold max ⊥ (fun e => ((gate l e : ℝ) : EReal)) = (gate l (first l) : EReal) :=
  fold_max_eq _ (first l) fun e => EReal.coe_le_coe_iff.2 ((first_gate l).le (Finset.mem_univ e))

/-- The greatest gate once the first expert's is struck out. -/
theorem fold_max_rest (l : Fin 16 → ℝ) :
    Finset.univ.fold max ⊥ (fun e => if e = first l then (⊥ : EReal) else ((gate l e : ℝ) : EReal)) = (gate l (second l) : EReal) := by
  refine (fold_max_eq _ (second l) fun e => ?_).trans (if_neg (second_ne_first l))
  rw [if_neg (second_ne_first l)]
  by_cases h : e = first l
  · rw [if_pos h]; exact bot_le
  · rw [if_neg h]; exact EReal.coe_le_coe_iff.2 ((second_gate l).le (Finset.mem_erase.2 ⟨h, Finset.mem_univ _⟩))

end Cert.MoE
-- ==== Proof.Value.Model.lean ====
module

public import proofs.«01_k».proof.Proof.Value.Choice
public import Mathlib.Data.Nat.Count

/-!
The layer in real numbers, for a list `L` of the tokens' logits: which tokens chose an expert before a given one, the
place of a token in its expert's queue, the two normalised weights, what a token's row is multiplied by, and the
load-balancing loss. Beneath them, the sums that count.
-/

@[expose] public section

noncomputable section

namespace Cert.MoE

/-! ## Sums of reals among the extended reals -/

theorem coe_sum {ι : Type*} (s : Finset ι) (f : ι → ℝ) : ((∑ i ∈ s, f i : ℝ) : EReal) = ∑ i ∈ s, ((f i : ℝ) : EReal) := by
  classical
  refine Finset.induction_on s (by simp) fun a s ha ih => ?_
  rw [Finset.sum_insert ha, Finset.sum_insert ha, EReal.coe_add, ih]

/-- One for a true statement, zero for a false one. -/
def ind (p : Prop) [Decidable p] : ℝ := if p then 1 else 0

theorem sum_ind (p : ℕ → Prop) [DecidablePred p] (n : ℕ) : ∑ k : Fin n, ind (p k) = (Nat.count p n : ℝ) := by
  unfold ind
  rw [Fin.sum_univ_eq_sum_range (fun k => if p k then (1 : ℝ) else 0) n, Nat.count_eq_card_filter_range, Finset.sum_boole]

theorem sum_ind_le (p : ℕ → Prop) [DecidablePred p] (n c : ℕ) (hc : c < n) :
    ∑ k : Fin n, ind (p k) * ind (k.val ≤ c) = (Nat.count p (c + 1) : ℝ) := by
  rw [Fin.sum_univ_eq_sum_range (fun k => ind (p k) * ind (k ≤ c)) n, Nat.count_eq_card_filter_range, ← Finset.sum_boole]
  rw [← Finset.sum_subset (Finset.range_subset_range.2 hc)]
  · refine Finset.sum_congr rfl fun k hk => ?_
    unfold ind
    rw [if_pos (Nat.lt_succ_iff.1 (Finset.mem_range.1 hk)), mul_one]
  · intro k _ hk
    unfold ind
    rw [if_neg (fun h => hk (Finset.mem_range.2 (Nat.lt_succ_of_le h))), mul_zero]

theorem sum_mul_ind (f : Fin 16 → ℝ) (a : Fin 16) : ∑ e, f e * ind (a = e) = f a := by
  unfold ind
  simp

theorem sum_ind_mul (f : Fin 16 → ℝ) (a : Fin 16) : ∑ e, ind (a = e) * f e = f a := by
  unfold ind
  simp

theorem succ_sub_one (k : ℕ) : (((k + 1 : ℕ) : ℝ) - 1) = (k : ℝ) := by push_cast; ring

/-! ## The layer -/

variable (L : ℕ → Fin 16 → ℝ)

/-- How many of the first `n` tokens have `e` as their first expert. -/
def firsts (e : Fin 16) (n : ℕ) : ℕ := Nat.count (fun s => first (L s) = e) n

/-- How many of the first `n` tokens have `e` as their second expert. -/
def seconds (e : Fin 16) (n : ℕ) : ℕ := Nat.count (fun s => second (L s) = e) n

/-- The place of token `s` in its first expert's queue. -/
def place0 (s : ℕ) : ℕ := firsts L (first (L s)) s

/-- The place of token `s` in its second expert's queue: behind all tokens that chose that expert first. -/
def place1 (s : ℕ) : ℕ := seconds L (second (L s)) s + firsts L (second (L s)) 8192

theorem firsts_succ (s : ℕ) : firsts L (first (L s)) (s + 1) = place0 L s + 1 := by
  unfold firsts place0
  rw [Nat.count_succ, if_pos rfl]; rfl

theorem seconds_succ (s : ℕ) : seconds L (second (L s)) (s + 1) = seconds L (second (L s)) s + 1 := by
  unfold seconds
  rw [Nat.count_succ, if_pos rfl]

theorem firsts_add (e : Fin 16) (a b : ℕ) :
    firsts L e (a + b) = firsts L e a + Nat.count (fun k => first (L (a + k)) = e) b := by
  unfold firsts; rw [Nat.count_add]

theorem seconds_add (e : Fin 16) (a b : ℕ) :
    seconds L e (a + b) = seconds L e a + Nat.count (fun k => second (L (a + k)) = e) b := by
  unfold seconds; rw [Nat.count_add]

theorem firsts_le (e : Fin 16) (n : ℕ) : firsts L e n ≤ n := Nat.count_le _

theorem seconds_le (e : Fin 16) (n : ℕ) : seconds L e n ≤ n := Nat.count_le _

/-- Two raised to the power of minus 23: the least sum the two gates are divided by. -/
def eps : ℝ := 1 / 8388608

/-- The sum the two gates are divided by. -/
def total (l : Fin 16 → ℝ) : ℝ := max (gate l (first l) + gate l (second l)) eps

theorem total_pos (l : Fin 16 → ℝ) : 0 < total l :=
  lt_of_lt_of_le (add_pos (gate_pos l _) (gate_pos l _)) (le_max_left _ _)

/-- The first expert's weight. -/
def weight0 (l : Fin 16 → ℝ) : ℝ := gate l (first l) * (1 / total l)

/-- The second expert's weight. -/
def weight1 (l : Fin 16 → ℝ) : ℝ := gate l (second l) * (1 / total l)

/-- What a token's row is multiplied by on its way through dispatch and combine: each expert's weight if the token has a
    place in that expert's buffer of 1024 rows. -/
def scale (s : ℕ) : ℝ := weight0 (L s) * ind (place0 L s < 1024) + weight1 (L s) * ind (place1 L s < 1024)

/-- The gates' sum over the tokens times the number of first choices, summed over the experts, by 2 to the power -22. -/
def loss : ℝ := (∑ e, (∑ s : Fin 8192, gate (L s) e) * (firsts L e 8192 : ℝ)) * (1 / 4194304)

end Cert.MoE
-- ==== Proof.Value.Words.lean ====
module

public import proofs.«01_k».proof.Proof.Value.Model
public import Idealize.ShloMosaic.Lib.Pointwise
public import Idealize.ShloMosaic.Lib.StableHlo.Predicate

/-!
The scalar operations both programs use, on real numbers and on small words: the constants, a one-bit word read as a
number, a number truncated to a word, the lowest index that a search over sixteen finds.
-/

@[expose] public section

noncomputable section

namespace Cert.MoE

open Idealize.ShloMosaic

theorem ofBits_bot : Ideal.ofBits .f32 0xFF800000#32 = ⊥ := by simp [Ideal.ofBits, Ideal.ieee]

theorem ofBits_capacity : Ideal.ofBits .f32 0x44800000#32 = ((1024 : ℝ) : EReal) := by
  simp [Ideal.ofBits, Ideal.ieee]
  rw [← EReal.coe_mul]; norm_num

theorem ofBits_eps : Ideal.ofBits .f32 0x34000000#32 = ((eps : ℝ) : EReal) := by
  unfold eps
  simp [Ideal.ofBits, Ideal.ieee]
  rw [← EReal.coe_mul]; norm_num

theorem ofBits_loss : Ideal.ofBits .f32 0x34800000#32 = ((1 / 4194304 : ℝ) : EReal) := by
  simp [Ideal.ofBits, Ideal.ieee]
  rw [← EReal.coe_mul]; norm_num

theorem div_real (a : ℝ) {b : ℝ} (hb : 0 < b) : Ideal.div (a : EReal) (b : EReal) = ((a * (1 / b) : ℝ) : EReal) := by
  rw [Ideal.div_coe hb.ne', ← EReal.coe_mul]

theorem coe_max (a b : ℝ) : max (a : EReal) (b : EReal) = ((max a b : ℝ) : EReal) :=
  (EReal.coe_strictMono.monotone.map_max).symm

/-- A flag widened to a word and read as a number. -/
theorem sitofp_flag (b : BitVec 1) :
    FloatOps.sitofp (F := Ideal) .f32 (b.setWidth 32) = ((ind (b = 1#1) : ℝ) : EReal) := by
  have h : ∀ b : BitVec 1, (b.setWidth 32).toInt = if b = 1#1 then 1 else 0 := by decide
  show (((b.setWidth 32).toInt : ℝ) : EReal) = _
  rw [h]
  unfold ind
  split <;> simp

theorem uitofp_flag (b : BitVec 1) : FloatOps.uitofp (F := Ideal) .f32 b = ((ind (b = 1#1) : ℝ) : EReal) := by
  have h : ∀ b : BitVec 1, b.toNat = if b = 1#1 then 1 else 0 := by decide
  show (((b.toNat : ℕ) : ℝ) : EReal) = _
  rw [h]
  unfold ind
  split <;> simp

theorem ind_congr {p q : Prop} [Decidable p] [Decidable q] (h : p ↔ q) : ind p = ind q := by
  unfold ind
  exact if_congr h rfl rfl

theorem ofNat_inj_small {a b : ℕ} (ha : a < 2 ^ 32) (hb : b < 2 ^ 32) : BitVec.ofNat 32 a = BitVec.ofNat 32 b ↔ a = b := by
  refine ⟨fun h => ?_, fun h => by rw [h]⟩
  have := congrArg BitVec.toNat h
  rwa [BitVec.toNat_ofNat, BitVec.toNat_ofNat, Nat.mod_eq_of_lt ha, Nat.mod_eq_of_lt hb] at this

theorem sitofp_eq (a b : BitVec 32) :
    FloatOps.sitofp (F := Ideal) .f32 ((IntOp.cmpi .eq a b).setWidth 32) = ((ind (a = b) : ℝ) : EReal) := by
  rw [sitofp_flag, ind_congr StableHlo.Predicate.cmpi_eq_iff]

theorem sitofp_sle {a b : ℕ} (ha : a < 2 ^ 31) (hb : b < 2 ^ 31) :
    FloatOps.sitofp (F := Ideal) .f32 ((IntOp.cmpi .sle (BitVec.ofNat 32 a) (BitVec.ofNat 32 b)).setWidth 32)
      = ((ind (a ≤ b) : ℝ) : EReal) := by
  rw [sitofp_flag]
  exact congrArg _ (ind_congr (StableHlo.Predicate.sle_ofNat_iff a b ha hb))

theorem sitofp_decide (p : Prop) [Decidable p] :
    FloatOps.sitofp (F := Ideal) .f32 ((BitVec.ofBool (decide p)).setWidth 32) = ((ind p : ℝ) : EReal) := by
  rw [sitofp_flag]
  exact congrArg _ (ind_congr (by rw [StableHlo.Predicate.ofBool_eq_one_iff, decide_eq_true_iff]))

theorem sitofp_nat {k : ℕ} (hk : k < 2 ^ 31) :
    FloatOps.sitofp (F := Ideal) .f32 (BitVec.ofNat 32 k) = (((k : ℕ) : ℝ) : EReal) := by
  show (((BitVec.ofNat 32 k).toInt : ℝ) : EReal) = _
  rw [StableHlo.Predicate.toInt_ofNat_small k hk, Int.cast_natCast]

theorem fptosi_nat {k : ℕ} (hk : k < 2 ^ 31) :
    FloatOps.fptosi (F := Ideal) (φ := .f32) 32 (((k : ℕ) : ℝ) : EReal) = BitVec.ofNat 32 k := by
  show BitVec.ofInt 32 (max _ (min _ (if (0 : ℝ) ≤ (k : ℝ) then ⌊(k : ℝ)⌋ else ⌈(k : ℝ)⌉))) = _
  rw [if_pos (Nat.cast_nonneg k), Int.floor_natCast, min_eq_right (by omega), max_eq_right (by omega), BitVec.ofInt_natCast]

theorem toInt_minsi (x y : BitVec 32) : (IntOp.minsi x y).toInt = min x.toInt y.toInt := by
  unfold IntOp.minsi
  by_cases h : x.slt y = true
  · rw [if_pos h]
    rw [BitVec.slt_iff_toInt_lt] at h
    exact (min_eq_left h.le).symm
  · rw [if_neg h]
    rw [BitVec.slt_iff_toInt_lt] at h
    exact (min_eq_right (not_lt.1 h)).symm

theorem toInt_fold_minsi (s : Finset (Fin 16)) (init : BitVec 32) (g : Fin 16 → BitVec 32) :
    (s.fold IntOp.minsi init g).toInt = s.fold min init.toInt (fun e => (g e).toInt) := by
  refine Finset.induction_on s (by simp only [Finset.fold_empty]) fun a s ha ih => ?_
  rw [Finset.fold_insert ha, Finset.fold_insert ha, toInt_minsi, ih]

/-- Each index that passes the test written as itself, every other as 16: the least is the lowest index that passes. -/
theorem fold_minsi (p : Fin 16 → Prop) [DecidablePred p] (i : Fin 16) (hi : p i) (hmin : ∀ e, p e → i ≤ e) :
    Finset.univ.fold IntOp.minsi 2147483647#32 (fun e : Fin 16 => if p e then BitVec.ofNat 32 e.val else 16#32)
      = BitVec.ofNat 32 i.val := by
  have small : ∀ e : Fin 16, (BitVec.ofNat 32 e.val).toInt = (e.val : ℤ) := fun e =>
    StableHlo.Predicate.toInt_ofNat_small _ (lt_trans e.isLt (by norm_num))
  refine BitVec.eq_of_toInt_eq ?_
  rw [toInt_fold_minsi, small]
  refine le_antisymm ?_ ?_
  · refine (Finset.fold_min_le _).2 (Or.inr ⟨i, Finset.mem_univ _, ?_⟩)
    rw [if_pos hi, small]
  · have hi16 := i.isLt
    have h0 : (2147483647#32 : BitVec 32).toInt = 2147483647 := by decide
    have h16 : (16#32 : BitVec 32).toInt = 16 := by decide
    refine (Finset.le_fold_min _).2 ⟨by rw [h0]; omega, fun e _ => ?_⟩
    by_cases he : p e
    · rw [if_pos he, small]; exact_mod_cast hmin e he
    · rw [if_neg he, h16]; omega

end Cert.MoE
-- ==== Proof.KernelIdeal.BlockGates.lean ====
module

public import proofs.«01_k».proof.Proof.KernelIdeal.Slots
public import proofs.«01_k».proof.Proof.Value.Words

/-!
The gates of one block of 2048 tokens and the two experts of each token, on blocks whose logits are real numbers.
-/

@[expose] public section

set_option maxRecDepth 16384

noncomputable section

namespace Cert.KernelIdeal.Hand

open Cert.KernelIdeal Cert.KernelIdeal.Gen Cert.MoE
open Idealize.ShloMosaic Idealize.ShloMosaic.TcCoe

/-- Token `r` of the block has the real logits `l r`. -/
def HasLogits (x : Vec Ideal S2048x1024 .f32) (wg : Vec Ideal S16x1024 .f32) (l : ℕ → Fin 16 → ℝ) : Prop :=
  ∀ (e : Fin 16) (r : Fin 2048), ∑ k : Fin 1024, wg (ix2 e k) * x (ix2 r k) = ((l r.val e : ℝ) : EReal)

variable {x : Vec Ideal S2048x1024 .f32} {wg : Vec Ideal S16x1024 .f32} {l : ℕ → Fin 16 → ℝ}

/-- The softmax, a column per token. -/
theorem gates_apply (h : HasLogits x wg l) (e : Fin 16) (r : Fin 2048) :
    k0_pay7 (F := Ideal) x wg (ix2 e r) = ((gate (l r.val) e : ℝ) : EReal) := by
  unfold k0_pay7
  pointwise
  simp only [h _ r, ofBits_bot, fold_max_logits, ← EReal.coe_sub, Ideal.exp_coe]
  show ((expo (l r.val) e : ℝ) : EReal) * Ideal.div 1 (∑ e', ((expo (l r.val) e' : ℝ) : EReal)) = _
  rw [← coe_sum, ← EReal.coe_one, div_real _ (sum_expo_pos _), ← EReal.coe_mul, one_mul]
  rfl

/-- The first expert's gate. -/
theorem gate0_apply (h : HasLogits x wg l) (r : Fin 2048) :
    k0_pay8 (F := Ideal) x wg (ix2 0 r) = ((gate (l r.val) (first (l r.val)) : ℝ) : EReal) := by
  unfold k0_pay8
  pointwise
  simp only [gates_apply h, ofBits_bot, fold_max_gates]

/-- The flag of the first expert. -/
theorem isFirst_apply (h : HasLogits x wg l) (e : Fin 16) (r : Fin 2048) :
    k0_pay9 (F := Ideal) x wg (ix2 e r) = 1#1 ↔ first (l r.val) = e := by
  unfold k0_pay9
  pointwise
  simp only [gates_apply h, gate0_apply h]
  rw [fold_minsi (fun e => ((gate (l r.val) e : ℝ) : EReal) = ((gate (l r.val) (first (l r.val)) : ℝ) : EReal)) (first (l r.val)) rfl
    fun e he => ?_]
  · rw [StableHlo.Predicate.cmpi_eq_iff, ofNat_inj_small (lt_trans e.isLt (by norm_num)) (lt_trans (Fin.isLt _) (by norm_num))]
    exact ⟨fun h => (Fin.ext h).symm, fun h => (congrArg Fin.val h).symm⟩
  · rcases (first_gate (l r.val)).2 e (Finset.mem_univ e) with hlt | ⟨_, hle⟩
    · exact absurd (EReal.coe_eq_coe_iff.1 he) hlt.ne
    · exact hle

/-- The gates with the first expert's struck out. -/
theorem rest_apply (h : HasLogits x wg l) (e : Fin 16) (r : Fin 2048) :
    k0_pay10 (F := Ideal) x wg (ix2 e r) = if e = first (l r.val) then (⊥ : EReal) else ((gate (l r.val) e : ℝ) : EReal) := by
  unfold k0_pay10
  pointwise
  by_cases he : e = first (l r.val)
  · rw [if_pos he, (isFirst_apply h e r).2 he.symm, ofBits_bot]; rfl
  · rw [if_neg he, ValueIdx.eq_zero_of_ne_one fun h1 => he ((isFirst_apply h e r).1 h1).symm, gates_apply h]; rfl

/-- The second expert's gate. -/
theorem gate1_apply (h : HasLogits x wg l) (r : Fin 2048) :
    k0_pay11 (F := Ideal) x wg (ix2 0 r) = ((gate (l r.val) (second (l r.val)) : ℝ) : EReal) := by
  unfold k0_pay11
  pointwise
  simp only [rest_apply h, ofBits_bot, fold_max_rest]

/-- The second expert's index. -/
theorem second_apply (h : HasLogits x wg l) (r : Fin 2048) :
    k0_pay13 (k0_pay12 (F := Ideal) x wg) (ix2 0 r) = BitVec.ofNat 32 (second (l r.val)).val := by
  unfold k0_pay13 k0_pay12
  pointwise
  simp only [rest_apply h, gate1_apply h]
  refine fold_minsi _ (second (l r.val)) (if_neg (second_ne_first _)) fun e he => ?_
  by_cases h1 : e = first (l r.val)
  · rw [if_pos h1] at he; exact absurd he.symm (EReal.coe_ne_bot _)
  · rw [if_neg h1] at he
    rcases (second_gate (l r.val)).2 e (Finset.mem_erase.2 ⟨h1, Finset.mem_univ e⟩) with hlt | ⟨_, hle⟩
    · exact absurd (EReal.coe_eq_coe_iff.1 he) hlt.ne
    · exact hle

/-- The first expert's row of ones. -/
theorem mask0_apply (h : HasLogits x wg l) (e : Fin 16) (r : Fin 2048) :
    k0_pay16 (F := Ideal) (k0_pay9 (F := Ideal) x wg) (ix2 e r) = ((ind (first (l r.val) = e) : ℝ) : EReal) := by
  unfold k0_pay16
  pointwise
  rw [sitofp_flag]
  exact congrArg _ (ind_congr (isFirst_apply h e r))

/-- The second expert's row of ones. -/
theorem mask1_apply (h : HasLogits x wg l) (e : Fin 16) (r : Fin 2048) :
    k0_pay17 (F := Ideal) rows (k0_pay12 (F := Ideal) x wg) (ix2 e r) = ((ind (second (l r.val) = e) : ℝ) : EReal) := by
  unfold k0_pay17
  pointwise
  rw [second_apply h, sitofp_eq]
  refine congrArg _ (ind_congr ?_)
  rw [ofNat_inj_small (lt_trans e.isLt (by norm_num)) (lt_trans (Fin.isLt _) (by norm_num))]
  exact ⟨fun h => (Fin.ext h).symm, fun h => (congrArg Fin.val h).symm⟩

end Cert.KernelIdeal.Hand
-- ==== Proof.KernelIdeal.BlockCounts.lean ====
module

public import proofs.«01_k».proof.Proof.KernelIdeal.BlockGates

/-!
The running counts of one block: how many of the tokens so far chose each expert first, and second. The block's masks
are multiplied by a triangle of ones half by half, and the counts the blocks before left are added.
-/

@[expose] public section

set_option maxRecDepth 16384

noncomputable section

namespace Cert.KernelIdeal.Hand

open Cert.KernelIdeal Cert.KernelIdeal.Gen Cert.MoE
open Idealize.ShloMosaic Idealize.ShloMosaic.TcCoe

/-- A row of ones against column `c` of the triangle: how many of the first `c + 1` hold. -/
theorem sum_triangle (p : ℕ → Prop) [DecidablePred p] (c : ℕ) (hc : c < 1024) :
    ∑ k : Fin 1024, ((ind (p k.val) : ℝ) : EReal)
        * FloatOps.sitofp (F := Ideal) .f32 ((IntOp.cmpi .sle (BitVec.ofNat 32 k.val) (BitVec.ofNat 32 c)).setWidth 32)
      = ((Nat.count p (c + 1) : ℝ) : EReal) := by
  rw [← sum_ind_le p 1024 c hc, coe_sum]
  refine Finset.sum_congr rfl fun k _ => ?_
  rw [sitofp_sle (lt_trans k.isLt (by norm_num)) (lt_trans hc (by norm_num)), ← EReal.coe_mul]

variable {x : Vec Ideal S2048x1024 .f32} {wg : Vec Ideal S16x1024 .f32} {L : ℕ → Fin 16 → ℝ} {n : ℕ}
variable {m : Vec Ideal S16x1 .f32}

/-- The two halves joined. -/
theorem count_halves (p : ℕ → Prop) [DecidablePred p] (r : Fin 2048) (h : ¬ r.val < 1024) :
    ((Nat.count (fun k => p (1024 + k)) (r.val - 1024 + 1) : ℝ) : EReal) + ((Nat.count p (1023 + 1) : ℝ) : EReal)
      = ((Nat.count p (r.val + 1) : ℝ) : EReal) := by
  rw [← EReal.coe_add, ← Nat.cast_add, add_comm, show r.val + 1 = 1024 + (r.val - 1024 + 1) by omega, Nat.count_add p 1024]

/-- The running count of first choices. -/
theorem running0 (h : HasLogits x wg fun r => L (2048 * n + r))
    (hm : ∀ e, m (ix2 e 0) = ((firsts L e (2048 * n) : ℝ) : EReal)) (e : Fin 16) (r : Fin 2048) :
    k0_pay19 (F := Ideal) rows (k0_pay9 (F := Ideal) x wg) (k0_pay12 (F := Ideal) x wg) m (ix2 e r)
      = ((firsts L e (2048 * n + (r.val + 1)) : ℝ) : EReal) := by
  unfold k0_pay19 k0_pay18
  pointwise
  simp only [mask0_apply h, hm]
  refine (congrArg₂ (fun a b : EReal => a + b)
    (?_ : _ = ((Nat.count (fun k => first (L (2048 * n + k)) = e) (r.val + 1) : ℝ) : EReal)) rfl).trans ?_
  rotate_left
  · rw [← EReal.coe_add, ← Nat.cast_add, firsts_add, add_comm]
  split
  · exact sum_triangle (fun k => first (L (2048 * n + k)) = e) _ ‹_›
  · rw [sum_triangle (fun k => first (L (2048 * n + (1024 + k))) = e) _ (by omega),
      sum_triangle (fun k => first (L (2048 * n + k)) = e) 1023 (by norm_num)]
    exact count_halves (fun k => first (L (2048 * n + k)) = e) r ‹_›

/-- The running count of second choices. -/
theorem running1 (h : HasLogits x wg fun r => L (2048 * n + r))
    (hm : ∀ e, m (ix2 e 0) = ((seconds L e (2048 * n) : ℝ) : EReal)) (e : Fin 16) (r : Fin 2048) :
    k0_pay20 (F := Ideal) rows (k0_pay9 (F := Ideal) x wg) (k0_pay12 (F := Ideal) x wg) m (ix2 e r)
      = ((seconds L e (2048 * n + (r.val + 1)) : ℝ) : EReal) := by
  unfold k0_pay20 k0_pay18
  pointwise
  simp only [mask1_apply h, hm]
  refine (congrArg₂ (fun a b : EReal => a + b)
    (?_ : _ = ((Nat.count (fun k => second (L (2048 * n + k)) = e) (r.val + 1) : ℝ) : EReal)) rfl).trans ?_
  rotate_left
  · rw [← EReal.coe_add, ← Nat.cast_add, seconds_add, add_comm]
  split
  · exact sum_triangle (fun k => second (L (2048 * n + k)) = e) _ ‹_›
  · rw [sum_triangle (fun k => second (L (2048 * n + (1024 + k))) = e) _ (by omega),
      sum_triangle (fun k => second (L (2048 * n + k)) = e) 1023 (by norm_num)]
    exact count_halves (fun k => second (L (2048 * n + k)) = e) r ‹_›

/-- The counts the block leaves to the next. -/
theorem cntStep1_apply (h : HasLogits x wg fun r => L (2048 * n + r))
    (hm : ∀ e, m (ix2 e 0) = ((firsts L e (2048 * n) : ℝ) : EReal)) (e : Fin 16) :
    cntStep1 x wg m (ix2 e 0) = ((firsts L e (2048 * (n + 1)) : ℝ) : EReal) := by
  unfold cntStep1 k0_pay23
  pointwise
  exact running0 h hm e 2047

theorem cntStep2_apply (h : HasLogits x wg fun r => L (2048 * n + r))
    (hm : ∀ e, m (ix2 e 0) = ((seconds L e (2048 * n) : ℝ) : EReal)) (e : Fin 16) :
    cntStep2 x wg m (ix2 e 0) = ((seconds L e (2048 * (n + 1)) : ℝ) : EReal) := by
  unfold cntStep2 k0_pay24
  pointwise
  exact running1 h hm e 2047

/-- The gates of the blocks so far, column by column. -/
theorem gateStep_apply {g : Vec Ideal S16x2048 .f32} (h : HasLogits x wg fun r => L (2048 * n + r))
    (hg : ∀ e (r : Fin 2048), g (ix2 e r) = ((∑ b ∈ Finset.range n, gate (L (2048 * b + r.val)) e : ℝ) : EReal))
    (e : Fin 16) (r : Fin 2048) :
    gateStep x wg g (ix2 e r) = ((∑ b ∈ Finset.range (n + 1), gate (L (2048 * b + r.val)) e : ℝ) : EReal) := by
  unfold gateStep k0_pay25
  pointwise
  rw [hg, gates_apply h, ← EReal.coe_add, Finset.sum_range_succ]

end Cert.KernelIdeal.Hand
-- ==== Proof.KernelIdeal.BlockRoute.lean ====
module

public import proofs.«01_k».proof.Proof.KernelIdeal.BlockCounts

/-!
The routing rows of one block, and what the kernel writes back from them. Row 0 holds the first expert's weight where
the token has a place, row 1 the second expert's weight, row 2 the token's place among the second choices of its second
expert, row 3 that expert's number.
-/

@[expose] public section

set_option maxRecDepth 16384

noncomputable section

namespace Cert.KernelIdeal.Hand

open Cert.KernelIdeal Cert.KernelIdeal.Gen Cert.MoE
open Idealize.ShloMosaic Idealize.ShloMosaic.TcCoe

variable {x : Vec Ideal S2048x1024 .f32} {wg : Vec Ideal S16x1024 .f32} {L : ℕ → Fin 16 → ℝ} {n : ℕ}
variable {m m' : Vec Ideal S16x1 .f32}

theorem total_apply {l : ℕ → Fin 16 → ℝ} (h : HasLogits x wg l) (r : Fin 2048) :
    k0_pay14 (F := Ideal) (k0_pay8 (F := Ideal) x wg) (k0_pay11 (F := Ideal) x wg) (ix2 0 r) = ((total (l r.val) : ℝ) : EReal) := by
  unfold k0_pay14
  pointwise
  rw [gate0_apply h, gate1_apply h, ofBits_eps, ← EReal.coe_add, coe_max]
  rfl

/-- The second expert's weight. -/
theorem weight1_apply {l : ℕ → Fin 16 → ℝ} (h : HasLogits x wg l) (r : Fin 2048) :
    k0_pay15 (F := Ideal) (k0_pay8 (F := Ideal) x wg) (k0_pay11 (F := Ideal) x wg) (ix2 0 r) = ((weight1 (l r.val) : ℝ) : EReal) := by
  unfold k0_pay15
  pointwise
  rw [gate1_apply h, total_apply h, div_real _ (total_pos _)]
  rfl

/-- A place against the capacity. -/
theorem lt_capacity (k : ℕ) : (((k : ℝ) : EReal) < Ideal.ofBits .f32 0x44800000#32) ↔ k < 1024 := by
  rw [ofBits_capacity, EReal.coe_lt_coe_iff]
  exact_mod_cast Iff.rfl

/-- The first expert's weight, where the token has a place. -/
theorem weight0_apply (h : HasLogits x wg fun r => L (2048 * n + r))
    (hm : ∀ e, m (ix2 e 0) = ((firsts L e (2048 * n) : ℝ) : EReal)) (r : Fin 2048) :
    k0_pay21 (F := Ideal) rows (k0_pay8 (F := Ideal) x wg) (k0_pay9 (F := Ideal) x wg) (k0_pay11 (F := Ideal) x wg)
        (k0_pay12 (F := Ideal) x wg) m (ix2 0 r)
      = ((weight0 (L (2048 * n + r.val)) * ind (place0 L (2048 * n + r.val) < 1024) : ℝ) : EReal) := by
  have hplace : (∑ e : Fin 16, k0_pay19 (F := Ideal) rows (k0_pay9 (F := Ideal) x wg) (k0_pay12 (F := Ideal) x wg) m (ix2 e r)
      * k0_pay16 (F := Ideal) (k0_pay9 (F := Ideal) x wg) (ix2 e r)) - 1 = ((place0 L (2048 * n + r.val) : ℝ) : EReal) := by
    simp only [running0 h hm, mask0_apply h, ← EReal.coe_mul]
    rw [← coe_sum, sum_mul_ind (fun e => (firsts L e (2048 * n + (r.val + 1)) : ℝ)), ← EReal.coe_one, ← EReal.coe_sub,
      ← Nat.add_assoc, firsts_succ]
    exact congrArg _ (succ_sub_one _)
  unfold k0_pay21
  pointwise
  rw [gate0_apply h, total_apply h, div_real _ (total_pos _), sitofp_decide, hplace, ind_congr (lt_capacity _), ← EReal.coe_mul]
  rfl

/-- The token's place among the second choices. -/
theorem place1_apply (h : HasLogits x wg fun r => L (2048 * n + r))
    (hm : ∀ e, m (ix2 e 0) = ((seconds L e (2048 * n) : ℝ) : EReal)) (r : Fin 2048) :
    (∑ e : Fin 16, k0_pay22 (F := Ideal) rows (k0_pay9 (F := Ideal) x wg) (k0_pay12 (F := Ideal) x wg) m (ix2 e r)) - 1
      = ((seconds L (second (L (2048 * n + r.val))) (2048 * n + r.val) : ℝ) : EReal) := by
  unfold k0_pay22
  pointwise
  simp only [running1 h hm, mask1_apply h, ← EReal.coe_mul]
  rw [← coe_sum, sum_mul_ind (fun e => (seconds L e (2048 * n + (r.val + 1)) : ℝ)), ← EReal.coe_one, ← EReal.coe_sub,
    ← Nat.add_assoc, seconds_succ]
  exact congrArg _ (succ_sub_one _)

/-- The routing rows, all at once. -/
theorem routeOf_apply (h : HasLogits x wg fun r => L (2048 * n + r))
    (hm : ∀ e, m (ix2 e 0) = ((firsts L e (2048 * n) : ℝ) : EReal))
    (hm' : ∀ e, m' (ix2 e 0) = ((seconds L e (2048 * n) : ℝ) : EReal)) (q : Fin 8) (r : Fin 2048) :
    routeOf x wg m m' (ix2 q r)
      = ((weight0 (L (2048 * n + r.val)) * ind (place0 L (2048 * n + r.val) < 1024) * ind (q.val = 0)
          + weight1 (L (2048 * n + r.val)) * ind (q.val = 1)
          + (seconds L (second (L (2048 * n + r.val))) (2048 * n + r.val) : ℝ) * ind (q.val = 2)
          + ((second (L (2048 * n + r.val))).val : ℝ) * ind (q.val = 3) : ℝ) : EReal) := by
  have row : ∀ k < 4, FloatOps.sitofp (F := Ideal) .f32 ((IntOp.cmpi .eq (BitVec.ofNat 32 q.val) (BitVec.ofNat 32 k)).setWidth 32)
      = ((ind (q.val = k) : ℝ) : EReal) := fun k hk => by
    rw [sitofp_eq]
    exact congrArg _ (ind_congr (ofNat_inj_small (lt_trans q.isLt (by norm_num)) (lt_trans hk (by norm_num))))
  unfold routeOf k0_pay1 k0_pay26 k0_pay27 k0_pay28
  pointwise
  rw [row 0 (by norm_num), row 1 (by norm_num), row 2 (by norm_num), row 3 (by norm_num), weight0_apply h hm, weight1_apply h,
    place1_apply h hm', second_apply h, sitofp_nat (lt_trans (Fin.isLt _) (by norm_num))]
  simp only [← EReal.coe_mul, ← EReal.coe_add]

/-- What the kernel writes for token `r` of the block, once the counts of all tokens are known. -/
theorem scaled_apply {t : Vec Ideal S16x1 .f32} (h : HasLogits x wg fun r => L (2048 * n + r))
    (hm : ∀ e, m (ix2 e 0) = ((firsts L e (2048 * n) : ℝ) : EReal))
    (hm' : ∀ e, m' (ix2 e 0) = ((seconds L e (2048 * n) : ℝ) : EReal))
    (ht : ∀ e, t (ix2 e 0) = ((firsts L e 8192 : ℝ) : EReal)) (r : Fin 2048) (j : Fin 1024) :
    k0_pay3 (F := Ideal) (routeOf x wg m m') t x (ix2 r j) = ((scale L (2048 * n + r.val) : ℝ) : EReal) * x (ix2 r j) := by
  have r0 : routeOf x wg m m' (ix2 0 r)
      = ((weight0 (L (2048 * n + r.val)) * ind (place0 L (2048 * n + r.val) < 1024) : ℝ) : EReal) :=
    (routeOf_apply h hm hm' 0 r).trans (congrArg _ (by simp [ind]))
  have r1 : routeOf x wg m m' (ix2 1 r) = ((weight1 (L (2048 * n + r.val)) : ℝ) : EReal) :=
    (routeOf_apply h hm hm' 1 r).trans (congrArg _ (by simp [ind]))
  have r2 : routeOf x wg m m' (ix2 2 r) = (((seconds L (second (L (2048 * n + r.val))) (2048 * n + r.val) : ℕ) : ℝ) : EReal) :=
    (routeOf_apply h hm hm' 2 r).trans (congrArg _ (by simp [ind]))
  have r3 : routeOf x wg m m' (ix2 3 r) = ((((second (L (2048 * n + r.val))).val : ℕ) : ℝ) : EReal) :=
    (routeOf_apply h hm hm' 3 r).trans (congrArg _ (by simp [ind]))
  have hplace : routeOf x wg m m' (ix2 2 r) + ∑ e : Fin 16,
      FloatOps.sitofp (F := Ideal) .f32 ((IntOp.cmpi .eq (BitVec.ofNat 32 e.val)
        (FloatOps.fptosi (F := Ideal) (φ := .f32) 32 (routeOf x wg m m' (ix2 3 r)))).setWidth 32) * t (ix2 e 0)
      = ((place1 L (2048 * n + r.val) : ℝ) : EReal) := by
    have flag : ∀ e : Fin 16, FloatOps.sitofp (F := Ideal) .f32 ((IntOp.cmpi .eq (BitVec.ofNat 32 e.val)
        (FloatOps.fptosi (F := Ideal) (φ := .f32) 32 (routeOf x wg m m' (ix2 3 r)))).setWidth 32)
        = ((ind (second (L (2048 * n + r.val)) = e) : ℝ) : EReal) := fun e => by
      rw [r3]
      rw [fptosi_nat (lt_trans (Fin.isLt _) (by norm_num)), sitofp_eq]
      refine congrArg _ (ind_congr ?_)
      rw [ofNat_inj_small (lt_trans e.isLt (by norm_num)) (lt_trans (Fin.isLt _) (by norm_num))]
      exact ⟨fun h => (Fin.ext h).symm, fun h => (congrArg Fin.val h).symm⟩
    simp only [flag, ht, ← EReal.coe_mul]
    rw [← coe_sum, sum_ind_mul (fun e => (firsts L e 8192 : ℝ)), r2, ← EReal.coe_add, ← Nat.cast_add]
    rfl
  unfold k0_pay3
  pointwise
  rw [hplace, sitofp_decide, ind_congr (lt_capacity _), r0, r1, ← EReal.coe_mul, ← EReal.coe_add]
  rfl

end Cert.KernelIdeal.Hand
-- ==== Proof.Value.Logits.lean ====
module

public import proofs.«01_k».proof.Proof.Value.Model

/-!
The logits of finite tokens under finite gate weights, as real numbers.
-/

@[expose] public section

noncomputable section

namespace Cert.MoE

/-- Every entry is a real number. -/
def AllReal {a b : ℕ} (X : Fin a → Fin b → EReal) : Prop := ∀ i j, X i j ≠ ⊤ ∧ X i j ≠ ⊥

theorem AllReal.coe {a b : ℕ} {X : Fin a → Fin b → EReal} (h : AllReal X) (i : Fin a) (j : Fin b) :
    (((X i j).toReal : ℝ) : EReal) = X i j := EReal.coe_toReal (h i j).1 (h i j).2

/-- Token `s`'s logits. -/
def logits (X : Fin 8192 → Fin 1024 → EReal) (W : Fin 16 → Fin 1024 → EReal) (s : ℕ) (e : Fin 16) : ℝ :=
  if h : s < 8192 then ∑ k, (W e k).toReal * (X ⟨s, h⟩ k).toReal else 0

theorem sum_logits {X : Fin 8192 → Fin 1024 → EReal} {W : Fin 16 → Fin 1024 → EReal} (hX : AllReal X) (hW : AllReal W)
    (s : Fin 8192) (e : Fin 16) : ∑ k, W e k * X s k = ((logits X W s.val e : ℝ) : EReal) := by
  unfold logits
  rw [dif_pos s.isLt, coe_sum]
  refine Finset.sum_congr rfl fun k _ => ?_
  rw [EReal.coe_mul, hX.coe, hW.coe]

/-- A sum over the tokens, block by block. -/
theorem sum_blocks (f : ℕ → ℝ) : ∑ r : Fin 2048, ∑ b ∈ Finset.range 4, f (2048 * b + r.val) = ∑ s : Fin 8192, f s.val := by
  rw [← Equiv.sum_comp (finProdFinEquiv : Fin 4 × Fin 2048 ≃ Fin 8192) fun s => f s.val, Fintype.sum_prod_type, Finset.sum_comm,
    Finset.sum_range]
  refine Finset.sum_congr rfl fun b _ => Finset.sum_congr rfl fun r _ => ?_
  rw [finProdFinEquiv_apply_val, add_comm]

end Cert.MoE
-- ==== Proof.KernelIdeal.BlockSums.lean ====
module

public import proofs.«01_k».proof.Proof.KernelIdeal.BlockRoute
public import proofs.«01_k».proof.Proof.Value.Logits

/-!
The four blocks one after another: the carried counts and gate sums in closed form, the loss, and the rows written back.
-/

@[expose] public section

set_option maxRecDepth 16384

noncomputable section

namespace Cert.KernelIdeal.Hand

open Cert.KernelIdeal Cert.KernelIdeal.Gen Cert.MoE
open Idealize.ShloMosaic Idealize.ShloMosaic.TcCoe

variable {blk : Fin 4 → Vec Ideal S2048x1024 .f32} {wg : Vec Ideal S16x1024 .f32} {L : ℕ → Fin 16 → ℝ}

/-- The four blocks hold the tokens in order. -/
def InOrder (blk : Fin 4 → Vec Ideal S2048x1024 .f32) (wg : Vec Ideal S16x1024 .f32) (L : ℕ → Fin 16 → ℝ) : Prop :=
  ∀ n < 4, HasLogits (blk (bk n)) wg fun r => L (2048 * n + r)

theorem cnt1_apply (h : InOrder blk wg L) : ∀ n ≤ 4, ∀ e, cnt1 blk wg n (ix2 e 0) = ((firsts L e (2048 * n) : ℝ) : EReal)
  | 0, _, e => by
    unfold cnt1 k0_pay4
    pointwise
    simp [firsts]
  | n + 1, hn, e => cntStep1_apply (h n hn) (cnt1_apply h n (by omega)) e

theorem cnt2_apply (h : InOrder blk wg L) : ∀ n ≤ 4, ∀ e, cnt2 blk wg n (ix2 e 0) = ((seconds L e (2048 * n) : ℝ) : EReal)
  | 0, _, e => by
    unfold cnt2 k0_pay5
    pointwise
    simp [seconds]
  | n + 1, hn, e => cntStep2_apply (h n hn) (cnt2_apply h n (by omega)) e

theorem gateSum_apply (h : InOrder blk wg L) : ∀ n ≤ 4, ∀ e (r : Fin 2048),
    gateSum blk wg n (ix2 e r) = ((∑ b ∈ Finset.range n, gate (L (2048 * b + r.val)) e : ℝ) : EReal)
  | 0, _, e, r => by
    unfold gateSum k0_pay6
    pointwise
    simp
  | n + 1, hn, e, r => gateStep_apply (h n hn) (gateSum_apply h n (by omega)) e r

/-- The loss. -/
theorem lossV_apply (h : InOrder blk wg L) : lossV blk wg (ix2 0 0) = ((loss L : ℝ) : EReal) := by
  unfold lossV k0_pay2
  pointwise
  simp only [gateSum_apply h 4 le_rfl, cnt1_apply h 4 le_rfl, ofBits_loss, ← coe_sum, ← EReal.coe_mul]
  refine congrArg _ ?_
  unfold loss
  refine congrArg (· * _) (Finset.sum_congr rfl fun e _ => ?_)
  rw [sum_blocks fun s => gate (L s) e]
  simp

/-- Row `r` of block `n` of the result. -/
theorem outV_apply (h : InOrder blk wg L) {n : ℕ} (hn : n < 4) (r : Fin 2048) (j : Fin 1024) :
    outV blk wg n (ix2 r j) = ((scale L (2048 * n + r.val) : ℝ) : EReal) * blk (bk n) (ix2 r j) := by
  unfold outV route
  exact scaled_apply (h n hn) (cnt1_apply h n hn.le) (cnt2_apply h n hn.le) (cnt1_apply h 4 le_rfl) r j

end Cert.KernelIdeal.Hand
-- ==== Proof.KernelIdeal.Arrays.lean ====
module

public import proofs.«01_k».proof.Proof.KernelIdeal.BlockSums
public import proofs.«01_k».proof.Proof.KernelIdeal.Frame
public import Idealize.ShloMosaic.Lib.Pipeline.ValueKit.Geometry

/-!
What the two result arrays hold after the run: every row of the first is its token scaled, and the second is the loss.
-/

@[expose] public section

set_option maxRecDepth 16384

noncomputable section

namespace Cert.KernelIdeal.Hand

open Cert.KernelIdeal Cert.KernelIdeal.Gen Cert.MoE
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- The tokens and the gating matrix as the run starts. -/
abbrev tok (c : Dev nD) : Vec Ideal S8192x1024 .f32 := m ((c : Thread nD τ).loc main_arg0)
abbrev wgt (c : Dev nD) : Vec Ideal S16x1024 .f32 := m ((c : Thread nD τ).loc main_arg1)
/-- Their logits. -/
abbrev logit (c : Dev nD) : ℕ → Fin 16 → ℝ := logits (fun s k => tok m c (ix2 s k)) (fun e k => wgt m c (ix2 e k))

/-- A block's entry is the tokens' entry at the block's offset. -/
theorem blkOf_apply (c : Dev nD) (b : Fin 4) (r : Fin 2048) (k : Fin 1024) :
    blkOf m c b (ix2 r k) = tok m c (ix2 ⟨2048 * b.val + r.val, by omega⟩ k) := by
  refine Eq.trans ?_ (congrFun (V_main_arg0 m c) _)
  refine congrArg (V m c main_arg0) (funext fun a => Fin.ext ?_)
  fin_cases a
  · show 2048 * b.val + 1 * r.val = 2048 * b.val + r.val; omega
  · show 0 + 1 * k.val = k.val; omega

theorem bk_of_lt {n : ℕ} (hn : n < 4) : (bk n).val = n := Nat.mod_eq_of_lt hn

/-- With finite arguments the four blocks hold the tokens in order. -/
theorem inOrder (c : Dev nD) (hX : AllReal fun s k => tok m c (ix2 s k)) (hW : AllReal fun e k => wgt m c (ix2 e k)) :
    InOrder (blkOf m c) (wgOf m c) (logit m c) := by
  intro n hn e r
  have h := sum_logits hX hW ⟨2048 * n + r.val, by omega⟩ e
  refine Eq.trans (Finset.sum_congr rfl fun k _ => ?_) h
  rw [blkOf_apply]
  have hb := bk_of_lt hn
  refine congrArg₂ (fun a b : EReal => a * b) (congrFun (V_main_arg1 m c) _) ?_
  exact congrArg (fun s => tok m c (ix2 s k)) (Fin.ext (by show 2048 * (bk n).val + r.val = 2048 * n + r.val; rw [hb]))

/-- The first result: each token times its scale. -/
def outG (c : Dev nD) : Vec Ideal S8192x1024 .f32 := fun i => (scale (logit m c) (i 0).val : EReal) * tok m c i

theorem sent_out : ∀ t : Fin cfg0.N, (cfg0.win 1).flush t = true → 4 ≤ t.val := fun t h => by
  by_contra hlt
  rw [stay_out t (by omega)] at h
  exact Bool.noConfusion h
theorem index_out : ∀ t : Fin cfg0.N, 4 ≤ t.val → (cfg0.win 1).index t = ![t.val - 4, 0] := by decide

theorem arr_out (c : Dev nD) (hX : AllReal fun s k => tok m c (ix2 s k)) (hW : AllReal fun e k => wgt m c (ix2 e k)) :
    (dats m 0 c).arrAt 1 cfg0.N = outG m c := by
  refine (dats m 0 c).arrAt_eq_of_covers 1 (outG m c) (by decide +kernel) fun t hf y => ?_
  have h4 := sent_out t hf
  have hN : cfg0.N = 8 := N_0
  have hlt := t.isLt
  have hidx := index_out t h4
  rw [after_out]
  obtain ⟨r, k, rfl⟩ : ∃ (r : Fin 2048) (k : Fin 1024), y = ix2 r k := ⟨y 0, y 1, funext fun a => by fin_cases a <;> rfl⟩
  refine (outV_apply (inOrder m c hX hW) (show t.val - 4 < 4 by omega) r k).trans ?_
  rw [blkOf_apply]
  have hb : (bk (t.val - 4)).val = t.val - 4 := bk_of_lt (by omega)
  have e : ((cfg0.win 1).blk t).view.emb (ix2 r k) = ix2 ⟨2048 * (t.val - 4) + r.val, by omega⟩ k := by
    funext a
    refine Fin.ext ?_
    fin_cases a
    · show (cfg0.win 1).index t 0 * 2048 + 1 * r.val = 2048 * (t.val - 4) + r.val
      rw [hidx]; show (t.val - 4) * 2048 + 1 * r.val = _; omega
    · show (cfg0.win 1).index t 1 * 1024 + 1 * k.val = k.val
      rw [hidx]; show 0 * 1024 + 1 * k.val = _; omega
  rw [e]
  refine congrArg (fun s => _ * tok m c (ix2 s k)) (Fin.ext ?_)
  show 2048 * (bk (t.val - 4)).val + r.val = _
  rw [hb]

/-- An array of one entry has one index. -/
theorem one_index (i : S1x1.Idx) : i = ix2 0 0 := by
  funext a
  refine Fin.ext ?_
  have h := (i a).isLt
  fin_cases a <;> (change _ < 1 at h; show (i _).val = 0; exact Nat.lt_one_iff.mp h)

theorem arr_loss (c : Dev nD) : (dats m 0 c).arrAt 2 cfg0.N = lossV (blkOf m c) (wgOf m c) := by
  refine (dats m 0 c).arrAt_eq_of_covers 2 (lossV (blkOf m c) (wgOf m c)) (by decide +kernel) fun t hf y => ?_
  rw [after_loss]
  exact congrArg (lossV (blkOf m c) (wgOf m c)) ((one_index _).trans (one_index _).symm)

/-- The loss as the host reshapes it. -/
theorem rest_loss (c : Dev nD) :
    Pipeline.afterTail₀ cfgs (dats m) 0 (V0 m) [hostOps1] c main_v0_1
      = (fun _ => lossV (blkOf m c) (wgOf m c) (ix2 0 0) : Vec Ideal S_ .f32) := by
  unfold Pipeline.afterTail₀
  have e : Pipeline.withArrays (cfgs 0).spec c (V0 m c) (fun w => (dats m 0 c).arrAt w (cfgs 0).N) (Proc.devRef .tc main_call0_v0_1)
      = lossV (blkOf m c) (wgOf m c) :=
    (Pipeline.withArrays_arr spec0 (by decide) c (V0 m c) (fun w => (dats m 0 c).arrAt w (cfgs 0).N) 2).trans (arr_loss m c)
  unfold hostOps1
  simp only [List.flatten_cons, List.flatten_nil, List.append_nil, StableHlo.after_cons, StableHlo.after_nil, StableHlo.reshape_result']
  funext i
  rw [e]
  exact congrArg (lossV (blkOf m c) (wgOf m c)) (one_index _)

/-- Every run from finite arguments ends with the tokens scaled, the loss, and its arguments unchanged. -/
theorem run_value (hX : ∀ c, AllReal fun s k => tok m c (ix2 s k)) (hW : ∀ c, AllReal fun e k => wgt m c (ix2 e k)) :
    θ_run defs (onTc (τ := τ) (main (F := Ideal))) ⟨m, fun _ => 0, ρ⟩ fun r => ∀ c : Dev nD,
      r.2.mem ((c.tc : Thread nD τ).loc main_v0_0) = outG m c
      ∧ r.2.mem ((c.tc : Thread nD τ).loc main_v0_1) = (fun _ => (loss (logit m c) : EReal) : Vec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    refine ⟨(h.1 c).1 1 |>.trans (arr_out m c (hX c) (hW c)), ?_, args_kept m h.1 c⟩
    refine ((h.1 c).2 main_v0_1 (Pipeline.mem_restRefs_of main_v0_1 (by decide) (by decide))).trans ((rest_loss m c).trans ?_)
    exact funext fun _ => lossV_apply (inOrder m c (hX c) (hW c))) (run_main m ρ)

end Cert.KernelIdeal.Hand

end
-- ==== Proof.Value.Finite.lean ====
module

public import proofs.«01_k».proof.Pre_finite
public import proofs.«01_k».proof.Proof.Value.Logits
public import Idealize.ShloMosaic.Lib.Pointwise
public import Idealize.ShloMosaic.Lib.ReduceAll
public import Idealize.ShloMosaic.Lib.StableHlo.Predicate

/-!
What the precondition says: every entry of both arguments is a real number.
-/

@[expose] public section

noncomputable section

namespace Cert.MoE

open Idealize.ShloMosaic Cert.Pre_finite

/-- The side conditions the precondition's operations take. -/
instance finiteFacts : Cert.Pre_finite.Facts where
  bcast_S_S8192x1024 := by decide
  reducesTo_S8192x1024_S_d0_1 := by decide
  h_S_ := by decide
  bcast_S_S16x1024 := by decide
  reducesTo_S16x1024_S_d0_1 := by decide

/-- A value whose absolute value is below infinity is a real number. -/
theorem real_of_abs_lt {a : EReal} (h : FloatOps.cmpf (F := Ideal) (φ := .f32) .olt (FloatOps.hostAbsf (φ := .f32) a) (FloatOps.ofBits .f32 0x7F800000#32) = 1#1) :
    a ≠ ⊤ ∧ a ≠ ⊥ := by
  change BitVec.ofBool (decide (max a (-a) < Ideal.ofBits .f32 0x7F800000#32)) = 1#1 at h
  have h := of_decide_eq_true ((StableHlo.Predicate.ofBool_eq_one_iff _).mp h)
  refine ⟨fun e => ?_, fun e => ?_⟩
  · rw [e] at h; exact absurd h (by simp)
  · rw [e] at h; exact absurd h (by simp)

instance : Subsingleton S_.Idx := ⟨fun a b => funext fun i => i.elim0⟩

theorem finite_iff (a : Vec Ideal S8192x1024 .f32) (b : Vec Ideal S16x1024 .f32) (h : fn (F := Ideal) a b = fun _ => 1#1) :
    (AllReal fun s k => a (ix2 s k)) ∧ AllReal fun e k => b (ix2 e k) := by
  have h0 := congrFun h ix0
  unfold fn at h0
  obtain ⟨h1, h2⟩ := IntOp.andi_eq_one.1 h0
  exact ⟨fun s k => real_of_abs_lt (Host.reduce_andi_all _ _ _ _ _ h1 (ix2 s k)), fun e k => real_of_abs_lt (Host.reduce_andi_all _ _ _ _ _ h2 (ix2 e k))⟩

end Cert.MoE

end
-- ==== Proof.Reference.Gates.lean ====
module

public import proofs.«01_k».proof.Proof.Gen.ReferenceIdeal.Read
public import proofs.«01_k».proof.Proof.Value.Logits
public import proofs.«01_k».proof.Proof.Value.Words
public import Idealize.ShloMosaic.Lib.Pointwise

/-!
The reference's logits and its gates.
-/

@[expose] public section

set_option maxRecDepth 16384

noncomputable section

namespace Cert.ReferenceIdeal.Hand

open Cert.ReferenceIdeal Cert.ReferenceIdeal.Gen Cert.ReferenceIdeal.Read Cert.MoE
open Idealize.ShloMosaic

variable (X : Vec Ideal S8192x1024 .f32) (W : Vec Ideal S16x1024 .f32)

/-- The logits of the two arguments. -/
abbrev logit : ℕ → Fin 16 → ℝ := logits (fun s k => X (ix2 s k)) (fun e k => W (ix2 e k))

/-- Both arguments are finite. -/
structure Finite : Prop where
  X : AllReal fun s k => X (ix2 s k)
  W : AllReal fun e k => W (ix2 e k)

variable {X W}

theorem logits_apply (h : Finite X W) (s : Fin 8192) (e : Fin 16) :
    val_main_v1 (F := Ideal) X W (ix2 s e) = (logit X W s e : EReal) := by
  unfold val_main_v1 val_main_v0
  pointwise
  refine Eq.trans (Finset.sum_congr rfl fun k _ => ?_) (sum_logits h.X h.W s e)
  exact mul_comm _ _

theorem gates_apply (h : Finite X W) (s : Fin 8192) (e : Fin 16) :
    val_main_v12 (F := Ideal) X W (ix2 s e) = (gate (logit X W s) e : EReal) := by
  unfold val_main_v12 val_main_v11 val_main_v10 val_main_v9 val_main_v8 val_main_v7 val_main_v6 val_main_v5 val_main_v4 val_main_v3 val_main_v2
    val_main_cst val_main_cst_0 val_main_cst_1
  pointwise
  simp only [logits_apply h, ofBits_bot, fold_max_logits, max_bot_left, ← EReal.coe_sub, Ideal.exp_coe]
  show Ideal.div ((expo (logit X W s) e : ℝ) : EReal) (∑ e', ((expo (logit X W s) e' : ℝ) : EReal)) = _
  rw [← coe_sum, div_real _ (sum_expo_pos _)]
  rfl

end Cert.ReferenceIdeal.Hand

end
-- ==== Proof.Value.TopTwo.lean ====
module

public import proofs.«01_k».proof.Proof.Value.Choice
public import Idealize.ShloMosaic.Lib.SortFacts

/-!
The first two positions of a stable descending sort are the two chosen experts.
-/

@[expose] public section

noncomputable section

namespace Cert.MoE

open Idealize.ShloMosaic

variable (l : Fin 16 → ℝ)

/-- Greater first, and among equals the smaller index. -/
def Before (b c : Fin 16) : Prop := l c < l b ∨ l c = l b ∧ b < c

theorem before_insert (a : Fin 16) : ∀ m : List (Fin 16), m.Pairwise (Before l) → (∀ b ∈ m, a < b) →
    (insertBefore (fun k k' => decide (l k' < l k)) a m).Pairwise (Before l)
  | [], _, _ => List.pairwise_singleton _ _
  | b :: m, hm, ha => by
    have hb := ha b List.mem_cons_self
    rw [List.pairwise_cons] at hm
    unfold insertBefore
    split
    · next h =>
      refine List.pairwise_cons.mpr ⟨fun c hc => ?_, before_insert a m hm.2 fun c hc => ha c (List.mem_cons_of_mem _ hc)⟩
      rcases List.mem_cons.mp ((perm_insertBefore _ a m).mem_iff.mp hc) with rfl | hc'
      · exact Or.inl (of_decide_eq_true h)
      · exact hm.1 c hc'
    · next h =>
      have h : l b ≤ l a := not_lt.mp fun hlt => h (decide_eq_true hlt)
      refine List.pairwise_cons.mpr ⟨fun c hc => ?_, List.pairwise_cons.mpr hm⟩
      have hac := ha c hc
      have hca : l c ≤ l a := by
        rcases List.mem_cons.mp hc with rfl | hc'
        · exact h
        · rcases hm.1 c hc' with hlt | ⟨heq, _⟩
          · exact hlt.le.trans h
          · exact heq.le.trans h
      rcases hca.lt_or_eq with hlt | heq
      · exact Or.inl hlt
      · exact Or.inr ⟨heq, hac⟩

theorem before_sort : ∀ m : List (Fin 16), m.Pairwise (· < ·) → (stableSort (fun k k' => decide (l k' < l k)) m).Pairwise (Before l)
  | [], _ => List.Pairwise.nil
  | a :: m, hm => by
    rw [List.pairwise_cons] at hm
    exact before_insert l a _ (before_sort m hm.2) fun b hb => hm.1 b ((perm_stableSort _ m).mem_iff.mp hb)

theorem before_sorted {i j : Fin 16} (hij : i < j) :
    Before l (sortedFrom (fun k k' => decide (l k' < l k)) i) (sortedFrom (fun k k' => decide (l k' < l k)) j) := by
  have h : ∀ a b : Fin (sortPositions 16 fun k k' => decide (l k' < l k)).length, a < b →
      Before l ((sortPositions 16 fun k k' => decide (l k' < l k)).get a) ((sortPositions 16 fun k k' => decide (l k' < l k)).get b) :=
    List.pairwise_iff_get.mp (before_sort l (List.finRange 16) (List.pairwise_lt_finRange 16))
  unfold sortedFrom
  exact h _ _ (by simp only [Fin.lt_def, Fin.val_cast]; exact hij)

/-- Position 0 of the sort is the first expert. -/
theorem sorted_zero : sortedFrom (fun k k' => decide (l k' < l k)) (0 : Fin 16) = first l := by
  refine IsBest.unique ⟨Finset.mem_univ _, fun e _ => ?_⟩ (first_spec l)
  obtain ⟨k, rfl⟩ := sortedFrom_surjective (fun k k' => decide (l k' < l k)) e
  rcases Nat.eq_zero_or_pos k.val with hk | hk
  · obtain rfl : k = 0 := Fin.ext hk
    exact Or.inr ⟨rfl, le_refl _⟩
  · exact (before_sorted l (show (0 : Fin 16) < k from hk)).imp_right fun h => ⟨h.1, h.2.le⟩

/-- Position 1 of the sort is the second expert. -/
theorem sorted_one : sortedFrom (fun k k' => decide (l k' < l k)) (1 : Fin 16) = second l := by
  have h01 := sorted_zero l
  refine IsBest.unique ⟨Finset.mem_erase.2 ⟨fun e => ?_, Finset.mem_univ _⟩, fun e he => ?_⟩ (second_spec l)
  · exact absurd (sortedFrom_injective _ (e.trans h01.symm)) (by decide)
  obtain ⟨k, rfl⟩ := sortedFrom_surjective (fun k k' => decide (l k' < l k)) e
  have hk0 : k.val ≠ 0 := fun hk => (Finset.mem_erase.1 he).1 (by obtain rfl : k = 0 := Fin.ext hk; exact h01)
  rcases Nat.eq_or_lt_of_le (Nat.one_le_iff_ne_zero.mpr hk0) with hk | hk
  · obtain rfl : k = 1 := Fin.ext hk.symm
    exact Or.inr ⟨rfl, le_refl _⟩
  · exact (before_sorted l (show (1 : Fin 16) < k from hk)).imp_right fun h => ⟨h.1, h.2.le⟩

end Cert.MoE

end
-- ==== Proof.Reference.Choices.lean ====
module

public import proofs.«01_k».proof.Proof.Reference.Gates
public import proofs.«01_k».proof.Proof.Value.TopTwo
public import proofs.«01_k».proof.Proof.Value.Model

/-!
The reference's two chosen experts, their rows of ones, their gates and their weights.
-/

@[expose] public section

set_option maxRecDepth 16384

noncomputable section

namespace Cert.ReferenceIdeal.Hand

open Cert.ReferenceIdeal Cert.ReferenceIdeal.Gen Cert.ReferenceIdeal.Read Cert.MoE
open Idealize.ShloMosaic

/-- The expert that the descending sort of a row of logits has at a position. -/
theorem topK_apply (y : Vec Ideal S8192x16 .f32) (s : Fin 8192) (l : Fin 16 → ℝ) (hy : ∀ e, y (ix2 s e) = ((l e : ℝ) : EReal)) (c : Fin 2) :
    (Host.topK S8192x2 1 (FloatOps.cmpfTotal (F := Ideal) (φ := .f32) .gt) y sliceFits_S8192x16_S8192x2).2 (ix2 s c)
      = BitVec.ofNat 32 (sortedFrom (fun k k' => decide (l k' < l k)) (⟨c.val, by omega⟩ : Fin 16)).val := by
  have e : (fun k k' : Fin 16 => FloatOps.cmpfTotal (F := Ideal) (φ := .f32) .gt (y (ix2 s k)) (y (ix2 s k')) == 1#1)
      = fun k k' => decide (l k' < l k) := by
    funext k k'
    rw [hy, hy]
    show (BitVec.ofBool (decide (((l k' : ℝ) : EReal) < ((l k : ℝ) : EReal))) == 1#1) = _
    rw [show decide (((l k' : ℝ) : EReal) < ((l k : ℝ) : EReal)) = decide (l k' < l k) from decide_eq_decide.mpr EReal.coe_lt_coe_iff]
    cases decide (l k' < l k) <;> rfl
  rw [← e]
  unfold Host.topK Host.sort2
  have hd : 1 < S8192x16.rank := by decide
  simp only [dif_pos hd]
  have ha : ∀ k : Fin 16, Shape.Idx.along (s := S8192x16) (ix2 s (⟨c.val, by omega⟩ : Fin 16)) ⟨1, hd⟩ k = ix2 s k := fun k => by
    funext a; fin_cases a <;> rfl
  refine (extractStridedSlice_apply _ _ _ (ix2 s c) (ix2 s (⟨c.val, by omega⟩ : Fin 16)) fun a => ?_).trans ?_
  · fin_cases a
    · exact (Nat.zero_add _).symm
    · exact (Nat.zero_add _).symm
  · have key : ∀ f g : Fin 16 → Fin 16 → Bool, f = g →
        iotaInDim S8192x16 32 ⟨1, hd⟩ (Shape.Idx.along (s := S8192x16) (ix2 s (⟨c.val, by omega⟩ : Fin 16)) ⟨1, hd⟩ (sortedFrom f (⟨c.val, by omega⟩ : Fin 16)))
          = BitVec.ofNat 32 (sortedFrom g ⟨c.val, by omega⟩).val := by
      intro f g hfg
      subst hfg
      have hi : ∀ k : Fin 16, iotaInDim S8192x16 32 ⟨1, hd⟩ (Shape.Idx.along (s := S8192x16) (ix2 s (⟨c.val, by omega⟩ : Fin 16)) ⟨1, hd⟩ k)
          = BitVec.ofNat 32 k.val := fun k => by rw [ha]; rfl
      exact hi _
    exact key _ _ (funext fun k => funext fun k' =>
      congrArg₂ (fun a b : S8192x16.Idx => FloatOps.cmpfTotal (F := Ideal) (φ := .f32) .gt (y a) (y b) == 1#1) (ha k) (ha k'))

variable {X : Vec Ideal S8192x1024 .f32} {W : Vec Ideal S16x1024 .f32}

theorem first_apply (h : Finite X W) (s : Fin 8192) :
    val_main_v14 (F := Ideal) X W (ix1 s) = BitVec.ofNat 32 (first (logit X W s)).val := by
  unfold val_main_v14 val_main_v13
  pointwise
  unfold val_main_indices
  refine (topK_apply _ s _ (logits_apply h s) 0).trans ?_
  exact congrArg (fun k : Fin 16 => BitVec.ofNat 32 k.val) (sorted_zero _)

theorem second_apply (h : Finite X W) (s : Fin 8192) :
    val_main_v16 (F := Ideal) X W (ix1 s) = BitVec.ofNat 32 (second (logit X W s)).val := by
  unfold val_main_v16 val_main_v15
  pointwise
  unfold val_main_indices
  refine (topK_apply _ s _ (logits_apply h s) 1).trans ?_
  exact congrArg (fun k : Fin 16 => BitVec.ofNat 32 k.val) (sorted_one _)

/-- A row of ones as a comparison of words. -/
theorem oneHot (a e : Fin 16) :
    FloatOps.uitofp (F := Ideal) .f32 (IntOp.cmpi .eq (BitVec.ofNat 32 a.val) (BitVec.ofNat 32 e.val)) = ((ind (a = e) : ℝ) : EReal) := by
  rw [uitofp_flag]
  refine congrArg _ (ind_congr ?_)
  rw [StableHlo.Predicate.cmpi_eq_iff, ofNat_inj_small (lt_trans a.isLt (by norm_num)) (lt_trans e.isLt (by norm_num))]
  exact ⟨Fin.ext, congrArg Fin.val⟩

theorem mask0_apply (h : Finite X W) (s : Fin 8192) (e : Fin 16) :
    val_main_v17 (F := Ideal) X W (ix2 s e) = ((ind (first (logit X W s) = e) : ℝ) : EReal) := by
  unfold val_main_v17 val_main_call0_v4 val_main_call0_v3 val_main_call0_v2 val_main_call0_v1 val_main_call0_v0
  pointwise
  rw [first_apply h]
  exact oneHot _ _

theorem mask1_apply (h : Finite X W) (s : Fin 8192) (e : Fin 16) :
    val_main_v18 (F := Ideal) X W (ix2 s e) = ((ind (second (logit X W s) = e) : ℝ) : EReal) := by
  unfold val_main_v18 val_main_call1_v4 val_main_call1_v3 val_main_call1_v2 val_main_call1_v1 val_main_call1_v0
  pointwise
  rw [second_apply h]
  exact oneHot _ _

/-- A row's sum against a row of ones. -/
theorem pick_sum (f : Fin 16 → ℝ) (a : Fin 16) : ∑ e, ((f e : ℝ) : EReal) * ((ind (a = e) : ℝ) : EReal) = ((f a : ℝ) : EReal) := by
  rw [← sum_mul_ind f a, coe_sum]
  exact Finset.sum_congr rfl fun e _ => (EReal.coe_mul _ _).symm

theorem gate0_apply (h : Finite X W) (s : Fin 8192) :
    val_main_v20 (F := Ideal) X W (ix1 s) = ((gate (logit X W s) (first (logit X W s)) : ℝ) : EReal) := by
  unfold val_main_v20 val_main_v19 val_main_cst_2
  pointwise
  simp only [gates_apply h, mask0_apply h, pick_sum]

theorem gate1_apply (h : Finite X W) (s : Fin 8192) :
    val_main_v22 (F := Ideal) X W (ix1 s) = ((gate (logit X W s) (second (logit X W s)) : ℝ) : EReal) := by
  unfold val_main_v22 val_main_v21 val_main_cst_3
  pointwise
  simp only [gates_apply h, mask1_apply h, pick_sum]

theorem total_apply (h : Finite X W) (s : Fin 8192) :
    val_main_v45 (F := Ideal) X W (ix1 s) = ((total (logit X W s) : ℝ) : EReal) := by
  unfold val_main_v45 val_main_v44 val_main_call4_v0 val_main_cst_13
  pointwise
  rw [gate0_apply h, gate1_apply h, ofBits_eps, max_comm, ← EReal.coe_add, coe_max]
  rfl

theorem weight0_apply (h : Finite X W) (s : Fin 8192) :
    val_main_v46 (F := Ideal) X W (ix1 s) = ((weight0 (logit X W s) : ℝ) : EReal) := by
  unfold val_main_v46
  pointwise
  rw [gate0_apply h, total_apply h, div_real _ (total_pos _)]
  rfl

theorem weight1_apply (h : Finite X W) (s : Fin 8192) :
    val_main_v47 (F := Ideal) X W (ix1 s) = ((weight1 (logit X W s) : ℝ) : EReal) := by
  unfold val_main_v47
  pointwise
  rw [gate1_apply h, total_apply h, div_real _ (total_pos _)]
  rfl

end Cert.ReferenceIdeal.Hand

end
-- ==== Proof.Reference.Running.lean ====
module

public import Idealize.ShloMosaic.PureOps.Ideal
public import Idealize.ShloMosaic.Lib.Pointwise
public import Idealize.ShloMosaic.Lib.Routing.OpsOne

/-!
A running sum down the rows of an array: the windowed sum whose window is as high as the array.
-/

@[expose] public section

noncomputable section

namespace Cert.MoE

open Idealize.ShloMosaic

theorem foldl_add_eq {ι : Type} (g : ι → EReal) : ∀ (l : List ι) (a : EReal), l.foldl (fun r n => r + g n) a = a + (l.map g).sum
  | [], a => by simp
  | b :: l, a => by
    rw [List.foldl_cons, foldl_add_eq g l, List.map_cons, List.sum_cons, add_assoc]

/-- A window whose last row is row `j` covers the rows up to `j`. -/
theorem sum_window (F : ℕ → EReal) (n j : ℕ) (hj : j ≤ n) :
    ∑ w : Fin (n + 1), (if n ≤ j + w.val then F (j + w.val - n) else 0) = ∑ k : Fin (n + 1), if k.val ≤ j then F k.val else 0 := by
  rw [Fin.sum_univ_eq_sum_range (fun w => if n ≤ j + w then F (j + w - n) else 0) (n + 1),
    Fin.sum_univ_eq_sum_range (fun k => if k ≤ j then F k else 0) (n + 1), ← Finset.sum_filter, ← Finset.sum_filter]
  refine Finset.sum_nbij' (fun w => j + w - n) (fun k => k + n - j) ?_ ?_ ?_ ?_ ?_
  · intro w hw
    simp only [Finset.mem_filter, Finset.mem_range] at hw ⊢
    omega
  · intro k hk
    simp only [Finset.mem_filter, Finset.mem_range] at hk ⊢
    omega
  · intro w hw
    simp only [Finset.mem_filter, Finset.mem_range] at hw
    omega
  · intro k hk
    simp only [Finset.mem_filter, Finset.mem_range] at hk
    omega
  · intro w _
    rfl

/-- An array padded above by `n` rows of zeros, read at a position. -/
theorem pad_apply {R n C : ℕ} (x : Vec Ideal (⟨2, ![R, C]⟩ : Shape) .f32) (F : ℕ → EReal) (c : Fin C) (hx : ∀ i : Fin R, x (ix2 i c) = F i.val)
    (p : Fin 2 → ℕ) (q : ℕ) (h0 : p 0 = q) (h1 : p 1 = c.val) (hq : q - n < R)
    (d : Decidable (∀ a : Fin 2, (![n, 0] : Fin 2 → ℕ) a ≤ p a ∧ p a - (![n, 0] : Fin 2 → ℕ) a < (![R, C] : Fin 2 → ℕ) a)) :
    @dite EReal (∀ a : Fin 2, (![n, 0] : Fin 2 → ℕ) a ≤ p a ∧ p a - (![n, 0] : Fin 2 → ℕ) a < (![R, C] : Fin 2 → ℕ) a) d
      (fun hin => x (fun a => ⟨p a - (![n, 0] : Fin 2 → ℕ) a, (hin a).2⟩)) (fun _ => 0) = if n ≤ q then F (q - n) else 0 := by
  have hc := c.isLt
  by_cases hn : n ≤ q
  · rw [if_pos hn, dif_pos (Fin.forall_fin_two.2 ⟨⟨by rw [h0]; exact hn, by rw [h0]; exact hq⟩, ⟨Nat.zero_le _, by rw [h1]; exact hc⟩⟩),
      ← hx ⟨q - n, hq⟩]
    refine congrArg x (funext fun a => Fin.ext ?_)
    fin_cases a
    · exact congrArg (· - n) h0
    · exact h1
  · rw [if_neg hn, dif_neg fun hin => hn (h0 ▸ (hin 0).1)]

/-- The windowed sum of an array whose window is the whole height and one column wide, padded above by one row less. -/
theorem running_apply {R n C : ℕ} (hR : n + 1 = R) (x : Vec Ideal (⟨2, ![R, C]⟩ : Shape) .f32) (F : ℕ → EReal) (c : Fin C)
    (hx : ∀ i : Fin R, x (ix2 i c) = F i.val) {u : Shape} (init : Vec Ideal u .f32) (hu : 0 < u.numel)
    (hinit : init (Shape.Idx.first hu) = (0 : EReal))
    (h : (⟨2, ![R, C]⟩ : Shape).ReduceWindows (![R, 1] : Fin 2 → ℕ) ![1, 1] ![n, 0] ![0, 0] (⟨2, ![R, C]⟩ : Shape)) (j : Fin R) :
    Host.reduceWindowAdd (F := Ideal) (φ := .f32) ![R, 1] ![1, 1] ![n, 0] ![0, 0] x init h hu (ix2 j c)
      = ∑ k : Fin R, if k.val ≤ j.val then F k.val else 0 := by
  subst hR
  have hj := j.isLt
  have hc := c.isLt
  show Host.reduceWindow (α := EReal) (· + ·) ![n + 1, 1] ![1, 1] ![n, 0] ![0, 0] x (fun _ : (⟨0, ![]⟩ : Shape).Idx => init (Shape.Idx.first hu)) h (by decide) (ix2 j c) = _
  unfold Host.reduceWindow
  dsimp only
  rw [hinit]
  refine (foldl_add_eq _ _ _).trans ?_
  rw [zero_add, ← Fin.sum_univ_def, ← sum_window F n j.val (by omega),
    ← Equiv.sum_comp (finCongr (Routing.numel_col (n + 1)))]
  refine Finset.sum_congr rfl fun w _ => ?_
  have h0 : j.val * 1 + ((Routing.shape2 (n + 1) 1).rowMajor.symm w 0).val = j.val + w.val := by
    rw [Routing.symm_col, Nat.mul_one]; rfl
  have h1 : c.val * 1 + ((Routing.shape2 (n + 1) 1).rowMajor.symm w 1).val = c.val := by
    rw [Routing.symm_col, Nat.mul_one]; rfl
  have hw : w.val < n + 1 := (w.cast (Routing.numel_col _)).isLt
  exact @pad_apply (n + 1) n C x F c hx (fun a => (ix2 j c a).val * ![1, 1] a + ((Routing.shape2 (n + 1) 1).rowMajor.symm w a).val)
    (j.val + w.val) h0 h1 (by omega) _

end Cert.MoE

end
-- ==== Proof.Reference.Places.lean ====
module

public import proofs.«01_k».proof.Proof.Reference.Choices
public import proofs.«01_k».proof.Proof.Reference.Running

/-!
The reference's places in the experts' queues, and its load-balancing loss.
-/

@[expose] public section

set_option maxRecDepth 16384

noncomputable section

namespace Cert.ReferenceIdeal.Hand

open Cert.ReferenceIdeal Cert.ReferenceIdeal.Gen Cert.ReferenceIdeal.Read Cert.MoE
open Idealize.ShloMosaic

/-- A running sum of ones and zeros counts. -/
theorem running_count (p : ℕ → Prop) [DecidablePred p] (j : Fin 8192) :
    ∑ k : Fin 8192, (if k.val ≤ j.val then ((ind (p k.val) : ℝ) : EReal) else 0) = ((Nat.count p (j.val + 1) : ℝ) : EReal) := by
  rw [← sum_ind_le p 8192 j.val j.isLt, coe_sum]
  refine Finset.sum_congr rfl fun k _ => ?_
  by_cases hk : k.val ≤ j.val
  · rw [if_pos hk, show ind (k.val ≤ j.val) = 1 from if_pos hk, mul_one]
  · rw [if_neg hk, show ind (k.val ≤ j.val) = 0 from if_neg hk, mul_zero, EReal.coe_zero]

variable {X : Vec Ideal S8192x1024 .f32} {W : Vec Ideal S16x1024 .f32}

theorem running0_apply (h : Finite X W) (s : Fin 8192) (e : Fin 16) :
    val_main_v28 (F := Ideal) X W (ix2 s e) = ((firsts (logit X W) e (s.val + 1) : ℝ) : EReal) := by
  unfold val_main_v28
  refine (running_apply (n := 8191) rfl _ (fun k => ((ind (first (logit X W k) = e) : ℝ) : EReal)) e
    (fun i => mask0_apply h i e) _ _ ?_ _ s).trans (running_count (fun k => first (logit X W k) = e) s)
  unfold val_main_call2_call0_v0 val_main_call2_call0_cst
  pointwise

theorem running1_apply (h : Finite X W) (s : Fin 8192) (e : Fin 16) :
    val_main_v36 (F := Ideal) X W (ix2 s e) = ((seconds (logit X W) e (s.val + 1) : ℝ) : EReal) := by
  unfold val_main_v36
  refine (running_apply (n := 8191) rfl _ (fun k => ((ind (second (logit X W k) = e) : ℝ) : EReal)) e
    (fun i => mask1_apply h i e) _ _ ?_ _ s).trans (running_count (fun k => second (logit X W k) = e) s)
  unfold val_main_call3_call0_v0 val_main_call3_call0_cst
  pointwise

theorem sum_firsts (X : Vec Ideal S8192x1024 .f32) (W : Vec Ideal S16x1024 .f32) (e : Fin 16) :
    ∑ s : Fin 8192, ((ind (first (logit X W s) = e) : ℝ) : EReal) = ((firsts (logit X W) e 8192 : ℝ) : EReal) := by
  rw [← coe_sum, sum_ind (fun s => first (logit X W s) = e) 8192]; rfl

theorem firsts_apply (h : Finite X W) (e : Fin 16) :
    val_main_v34 (F := Ideal) X W (ix1 e) = ((firsts (logit X W) e 8192 : ℝ) : EReal) := by
  unfold val_main_v34 val_main_cst_10
  pointwise
  simp only [mask0_apply h, sum_firsts]

theorem place0_apply (h : Finite X W) (s : Fin 8192) :
    val_main_v33 (F := Ideal) X W (ix1 s) = BitVec.ofNat 32 (place0 (logit X W) s.val) := by
  unfold val_main_v33 val_main_v32 val_main_v31 val_main_v30 val_main_v29 val_main_cst_8 val_main_cst_9
  pointwise
  simp only [running0_apply h, mask0_apply h, ← EReal.coe_one, ← EReal.coe_sub]
  rw [pick_sum (fun e => (firsts (logit X W) e (s.val + 1) : ℝ) - 1), firsts_succ, succ_sub_one]
  exact fptosi_nat (lt_of_le_of_lt (firsts_le _ _ _) (lt_trans s.isLt (by norm_num)))

theorem place1_apply (h : Finite X W) (s : Fin 8192) :
    val_main_v43 (F := Ideal) X W (ix1 s) = BitVec.ofNat 32 (place1 (logit X W) s.val) := by
  unfold val_main_v43 val_main_v42 val_main_v41 val_main_v40 val_main_v39 val_main_v38 val_main_v37 val_main_v35 val_main_cst_11 val_main_cst_12
  pointwise
  simp only [running1_apply h, firsts_apply h, mask1_apply h, ← EReal.coe_one, ← EReal.coe_sub, ← EReal.coe_add]
  rw [pick_sum (fun e => (seconds (logit X W) e (s.val + 1) : ℝ) - 1 + (firsts (logit X W) e 8192 : ℝ)), seconds_succ, succ_sub_one,
    ← Nat.cast_add]
  have h0 := seconds_le (logit X W) (second (logit X W s)) s
  have h1 := firsts_le (logit X W) (second (logit X W s)) 8192
  have hs := s.isLt
  exact fptosi_nat (by omega)

theorem loss_apply (h : Finite X W) : val_main_v27 (F := Ideal) X W ix0 = ((loss (logit X W) : ℝ) : EReal) := by
  unfold val_main_v27 val_main_v26 val_main_v25 val_main_v24 val_main_v23 val_main_cst_4 val_main_cst_5 val_main_cst_6 val_main_cst_7
  pointwise
  simp only [gates_apply h, mask0_apply h, sum_firsts]
  simp only [← coe_sum, ← EReal.coe_mul]
  rw [ofBits_loss, ← EReal.coe_mul]
  rfl

end Cert.ReferenceIdeal.Hand

end
-- ==== Proof.Value.Slots.lean ====
module

public import proofs.«01_k».proof.Proof.Value.Model

/-!
The buffer of 16 times 1024 rows that the tokens are sent to. A token's row goes to its first expert's part, at the token's
place in that expert's queue, and likewise to its second expert's part; a place beyond 1024 is sent nothing. No two rows
that are sent fall on one place, so what a token finds at its place is its own row.
-/

@[expose] public section

noncomputable section

namespace Cert.MoE

/-- The buffer's row for a place in an expert's queue, the last row where that lies beyond the end. -/
def slot (a : Fin 16) (p : ℕ) : Fin 16384 := ⟨min 16383 (a.val * 1024 + p), lt_of_le_of_lt (min_le_left _ _) (by norm_num)⟩

theorem slot_inj {a b : Fin 16} {p q : ℕ} (hp : p < 1024) (hq : q < 1024) (h : slot a p = slot b q) : a = b ∧ p = q := by
  have e : min 16383 (a.val * 1024 + p) = min 16383 (b.val * 1024 + q) := congrArg Fin.val h
  have ha := a.isLt
  have hb := b.isLt
  rw [min_eq_right (by omega), min_eq_right (by omega)] at e
  exact ⟨Fin.ext (by omega), by omega⟩

variable (L : ℕ → Fin 16 → ℝ)

def slot0 (s : ℕ) : Fin 16384 := slot (first (L s)) (place0 L s)

def slot1 (s : ℕ) : Fin 16384 := slot (second (L s)) (place1 L s)

variable {L}

theorem slot0_inj {s t : ℕ} (hs : place0 L s < 1024) (ht : place0 L t < 1024) (h : slot0 L s = slot0 L t) : s = t := by
  obtain ⟨he, hp⟩ := slot_inj hs ht h
  unfold place0 firsts at hp
  rw [← he] at hp
  exact Nat.count_injective (p := fun k => first (L k) = first (L s)) rfl he.symm hp

theorem slot1_inj {s t : ℕ} (hs : place1 L s < 1024) (ht : place1 L t < 1024) (h : slot1 L s = slot1 L t) : s = t := by
  obtain ⟨he, hp⟩ := slot_inj hs ht h
  unfold place1 seconds at hp
  rw [← he] at hp
  exact Nat.count_injective (p := fun k => second (L k) = second (L s)) rfl he.symm (Nat.add_right_cancel hp)

/-- The second choices stand behind all the first ones. -/
theorem slot0_ne_slot1 {s t : ℕ} (hs : s < 8192) (h0 : place0 L s < 1024) (h1 : place1 L t < 1024) : slot0 L s ≠ slot1 L t := by
  intro h
  obtain ⟨he, hp⟩ := slot_inj h0 h1 h
  have hlt : place0 L s < firsts L (first (L s)) 8192 := Nat.count_strict_mono (p := fun k => first (L k) = first (L s)) rfl hs
  rw [hp, he] at hlt
  exact absurd hlt (not_lt.2 (Nat.le_add_left _ _))

variable (L)

/-- What the first choices bring to a row of the buffer. -/
def held0 (x : Fin 8192 → ℝ) (b : Fin 16384) : ℝ := ∑ s : Fin 8192, if slot0 L s = b then ind (place0 L s < 1024) * x s else 0

/-- What the second choices bring. -/
def held1 (x : Fin 8192 → ℝ) (b : Fin 16384) : ℝ := ∑ s : Fin 8192, if slot1 L s = b then ind (place1 L s < 1024) * x s else 0

variable {L}

/-- A sum of which one term alone is not zero. -/
theorem sum_one {x : Fin 8192 → ℝ} {b : Fin 16384} {t : ℕ → Fin 16384} {v : ℕ → Prop} [DecidablePred v] (s : Fin 8192) (hs : t s = b)
    (hv : v s) (h : ∀ r : Fin 8192, t r = b → v r → r = s) : (∑ r : Fin 8192, if t r = b then ind (v r) * x r else 0) = x s := by
  rw [Finset.sum_eq_single s]
  · rw [if_pos hs, show ind (v s) = 1 from if_pos hv, one_mul]
  · intro r _ hr
    by_cases ht : t r = b
    · rw [if_pos ht, show ind (v r) = 0 from if_neg fun hv => hr (h r ht hv), zero_mul]
    · rw [if_neg ht]
  · exact fun hn => absurd (Finset.mem_univ _) hn

/-- A sum of zeros. -/
theorem sum_none {x : Fin 8192 → ℝ} {b : Fin 16384} {t : ℕ → Fin 16384} {v : ℕ → Prop} [DecidablePred v]
    (h : ∀ r : Fin 8192, t r = b → ¬v r) : (∑ r : Fin 8192, if t r = b then ind (v r) * x r else 0) = 0 := by
  refine Finset.sum_eq_zero fun r _ => ?_
  by_cases ht : t r = b
  · rw [if_pos ht, show ind (v r) = 0 from if_neg (h r ht), zero_mul]
  · rw [if_neg ht]

theorem held_slot0 (x : Fin 8192 → ℝ) (s : Fin 8192) (h : place0 L s < 1024) :
    held0 L x (slot0 L s) + held1 L x (slot0 L s) = x s := by
  unfold held0 held1
  exact (congrArg₂ (· + ·) (sum_one (t := slot0 L) (v := fun r => place0 L r < 1024) s rfl h fun r e hr => Fin.ext (slot0_inj hr h e))
    (sum_none (t := slot1 L) (v := fun r => place1 L r < 1024) fun r e hr => slot0_ne_slot1 s.isLt h hr e.symm)).trans (add_zero _)

theorem held_slot1 (x : Fin 8192 → ℝ) (s : Fin 8192) (h : place1 L s < 1024) :
    held0 L x (slot1 L s) + held1 L x (slot1 L s) = x s := by
  unfold held0 held1
  exact (congrArg₂ (· + ·) (sum_none (t := slot0 L) (v := fun r => place0 L r < 1024) fun r e hr => slot0_ne_slot1 r.isLt hr h e)
    (sum_one (t := slot1 L) (v := fun r => place1 L r < 1024) s rfl h fun r e hr => Fin.ext (slot1_inj hr h e))).trans (zero_add _)

/-- The two rows a token finds, weighted: the token's own row, scaled. -/
theorem combine (x : Fin 8192 → ℝ) (s : Fin 8192) :
    weight0 (L s) * ind (place0 L s < 1024) * (held0 L x (slot0 L s) + held1 L x (slot0 L s))
      + weight1 (L s) * ind (place1 L s < 1024) * (held0 L x (slot1 L s) + held1 L x (slot1 L s)) = scale L s * x s := by
  have h0 : weight0 (L s) * ind (place0 L s < 1024) * (held0 L x (slot0 L s) + held1 L x (slot0 L s))
      = weight0 (L s) * ind (place0 L s < 1024) * x s := by
    by_cases h : place0 L s < 1024
    · rw [held_slot0 x s h]
    · rw [show ind (place0 L s < 1024) = 0 from if_neg h, mul_zero, zero_mul, zero_mul]
  have h1 : weight1 (L s) * ind (place1 L s < 1024) * (held0 L x (slot1 L s) + held1 L x (slot1 L s))
      = weight1 (L s) * ind (place1 L s < 1024) * x s := by
    by_cases h : place1 L s < 1024
    · rw [held_slot1 x s h]
    · rw [show ind (place1 L s < 1024) = 0 from if_neg h, mul_zero, zero_mul, zero_mul]
  rw [h0, h1, ← add_mul]
  rfl

end Cert.MoE

end
-- ==== Proof.Reference.Indices.lean ====
module

public import proofs.«01_k».proof.Proof.Reference.Places
public import proofs.«01_k».proof.Proof.Value.Slots
public import Idealize.ShloMosaic.Lib.WordArith
public import Idealize.ShloMosaic.Lib.WordCmp
public import Idealize.ShloMosaic.Lib.Routing.OpsPair

/-!
The reference's words: the buffer's row each choice of a token goes to, and the flag that says whether the choice has a
place there.
-/

@[expose] public section

set_option maxRecDepth 16384

noncomputable section

namespace Cert.ReferenceIdeal.Hand

open Cert.ReferenceIdeal Cert.ReferenceIdeal.Gen Cert.ReferenceIdeal.Read Cert.MoE
open Idealize.ShloMosaic

/-- The place in the buffer as a word: expert times 1024 plus place, kept between 0 and 16383. -/
theorem slot_word (a : Fin 16) {p : ℕ} (hp : p < 2 ^ 15) :
    IntOp.minsi 16383#32 (IntOp.maxsi 0#32 (IntOp.addi (IntOp.muli (BitVec.ofNat 32 a.val) 1024#32) (BitVec.ofNat 32 p)))
      = BitVec.ofNat 32 (slot a p).val := by
  have ha := a.isLt
  have h : IntOp.addi (IntOp.muli (BitVec.ofNat 32 a.val) 1024#32) (BitVec.ofNat 32 p) = BitVec.ofNat 32 (a.val * 1024 + p) := by
    show BitVec.ofNat 32 a.val * BitVec.ofNat 32 1024 + BitVec.ofNat 32 p = _
    rw [BitVec.ofNat_add, BitVec.ofNat_mul]
  refine BitVec.eq_of_toInt_eq ?_
  rw [toInt_minsi, h, WordArith.toInt_maxsi_zero, StableHlo.Predicate.toInt_ofNat_small (a.val * 1024 + p) (by omega),
    StableHlo.Predicate.toInt_ofNat_small _ (lt_trans (slot a p).isLt (by norm_num)), max_eq_right (by omega)]
  show min (16383 : ℤ) _ = ((min 16383 (a.val * 1024 + p) : ℕ) : ℤ)
  push_cast
  rfl

/-- A word that is not negative is left as it is. -/
theorem wrap_word (b : Fin 16384) (a : BitVec 32) :
    Scalar.select (IntOp.cmpi .slt (BitVec.ofNat 32 b.val) 0#32) a (BitVec.ofNat 32 b.val) = BitVec.ofNat 32 b.val := by
  refine Routing.wrap_of_lt _ _ ?_
  rw [BitVec.toNat_ofNat, Nat.mod_eq_of_lt (lt_trans b.isLt (by norm_num))]
  exact lt_trans b.isLt (by norm_num)

/-- The flag of a place below 1024 as a number. -/
theorem valid_word {p : ℕ} (hp : p < 2 ^ 15) :
    FloatOps.uitofp (F := Ideal) .f32 (IntOp.andi (IntOp.cmpi .sge (BitVec.ofNat 32 p) 0#32) (IntOp.cmpi .slt (BitVec.ofNat 32 p) 1024#32))
      = ((ind (p < 1024) : ℝ) : EReal) := by
  rw [uitofp_flag]
  refine congrArg _ (ind_congr ?_)
  rw [show (1024#32 : BitVec 32) = BitVec.ofNat 32 1024 from rfl, WordCmp.andi_sge_zero_slt_ofNat (by norm_num),
    StableHlo.Predicate.ofBool_eq_one_iff, decide_eq_true_iff, BitVec.toNat_ofNat, Nat.mod_eq_of_lt (by omega)]

theorem place0_lt (L : ℕ → Fin 16 → ℝ) (s : Fin 8192) : place0 L s < 2 ^ 15 := by
  have h0 := firsts_le L (first (L s)) s
  have hs := s.isLt
  show firsts L (first (L s)) s < 2 ^ 15
  omega

theorem place1_lt (L : ℕ → Fin 16 → ℝ) (s : Fin 8192) : place1 L s < 2 ^ 15 := by
  have h0 := seconds_le L (second (L s)) s
  have h1 := firsts_le L (second (L s)) 8192
  have hs := s.isLt
  show seconds L (second (L s)) s + firsts L (second (L s)) 8192 < 2 ^ 15
  omega

variable {X : Vec Ideal S8192x1024 .f32} {W : Vec Ideal S16x1024 .f32}

theorem slot0_apply (h : Finite X W) (s : Fin 8192) :
    val_main_v58 (F := Ideal) X W (ix1 s) = BitVec.ofNat 32 (slot0 (logit X W) s).val := by
  unfold val_main_v58 val_main_call5_v4 val_main_call5_v3 val_main_call5_v2 val_main_call5_v1 val_main_call5_v0 val_main_v57 val_main_v56
    val_main_v55 val_main_c_16 val_main_c_17 val_main_c_18
  pointwise
  rw [first_apply h, place0_apply h]
  exact slot_word _ (place0_lt _ s)

theorem slot1_apply (h : Finite X W) (s : Fin 8192) :
    val_main_v78 (F := Ideal) X W (ix1 s) = BitVec.ofNat 32 (slot1 (logit X W) s).val := by
  unfold val_main_v78 val_main_call6_v4 val_main_call6_v3 val_main_call6_v2 val_main_call6_v1 val_main_call6_v0 val_main_v77 val_main_v76
    val_main_v75 val_main_c_23 val_main_c_24 val_main_c_25
  pointwise
  rw [second_apply h, place1_apply h]
  exact slot_word _ (place1_lt _ s)

/-- The words the rows are fetched by are those they were sent by. -/
theorem slot0_again (h : Finite X W) (s : Fin 8192) :
    val_main_v101 (F := Ideal) X W (ix1 s) = BitVec.ofNat 32 (slot0 (logit X W) s).val := slot0_apply h s

theorem slot1_again (h : Finite X W) (s : Fin 8192) :
    val_main_v117 (F := Ideal) X W (ix1 s) = BitVec.ofNat 32 (slot1 (logit X W) s).val := slot1_apply h s

theorem valid0_apply (h : Finite X W) (s : Fin 8192) :
    val_main_v54 (F := Ideal) X W (ix1 s) = ((ind (place0 (logit X W) s < 1024) : ℝ) : EReal) := by
  unfold val_main_v54 val_main_v53 val_main_v52 val_main_v51 val_main_v50 val_main_v49 val_main_c val_main_c_15
  pointwise
  rw [place0_apply h]
  exact valid_word (place0_lt _ s)

theorem valid1_apply (h : Finite X W) (s : Fin 8192) :
    val_main_v74 (F := Ideal) X W (ix1 s) = ((ind (place1 (logit X W) s < 1024) : ℝ) : EReal) := by
  unfold val_main_v74 val_main_v73 val_main_v72 val_main_v71 val_main_v70 val_main_v69 val_main_c_21 val_main_c_22
  pointwise
  rw [place1_apply h]
  exact valid_word (place1_lt _ s)

theorem valid0_again (h : Finite X W) (s : Fin 8192) :
    val_main_v97 (F := Ideal) X W (ix1 s) = ((ind (place0 (logit X W) s < 1024) : ℝ) : EReal) := valid0_apply h s

theorem valid1_again (h : Finite X W) (s : Fin 8192) :
    val_main_v113 (F := Ideal) X W (ix1 s) = ((ind (place1 (logit X W) s < 1024) : ℝ) : EReal) := valid1_apply h s

/-- The index columns of the two scatters and of the two gathers. -/
theorem send0_apply (h : Finite X W) (s : Fin 8192) :
    val_main_v67 (F := Ideal) X W (ix2 s 0) = BitVec.ofNat 32 (slot0 (logit X W) s).val := by
  unfold val_main_v67 val_main_v66 val_main_v65 val_main_v63 val_main_v62 val_main_c_19
  pointwise
  rw [slot0_apply h]
  exact wrap_word _ _

theorem send1_apply (h : Finite X W) (s : Fin 8192) :
    val_main_v87 (F := Ideal) X W (ix2 s 0) = BitVec.ofNat 32 (slot1 (logit X W) s).val := by
  unfold val_main_v87 val_main_v86 val_main_v85 val_main_v83 val_main_v82 val_main_c_26
  pointwise
  rw [slot1_apply h]
  exact wrap_word _ _

theorem fetch0_apply (h : Finite X W) (s : Fin 8192) :
    val_main_call8_v5 (F := Ideal) X W (ix2 s 0) = BitVec.ofNat 32 (slot0 (logit X W) s).val := by
  unfold val_main_call8_v5 val_main_call8_v4 val_main_call8_v3 val_main_call8_v1 val_main_call8_v0 val_main_call8_c
  pointwise
  rw [slot0_again h]
  exact wrap_word _ _

theorem fetch1_apply (h : Finite X W) (s : Fin 8192) :
    val_main_call10_v5 (F := Ideal) X W (ix2 s 0) = BitVec.ofNat 32 (slot1 (logit X W) s).val := by
  unfold val_main_call10_v5 val_main_call10_v4 val_main_call10_v3 val_main_call10_v1 val_main_call10_v0 val_main_call10_c
  pointwise
  rw [slot1_again h]
  exact wrap_word _ _

end Cert.ReferenceIdeal.Hand

end
-- ==== Proof.Reference.Scatter.lean ====
module

public import proofs.«01_k».proof.Proof.Reference.Gates
public import Idealize.ShloMosaic.Lib.Routing.OpsPair

/-!
Rows added to the buffer's rows at given places: the sum that a row receives.
-/

@[expose] public section

set_option maxRecDepth 16384

noncomputable section

namespace Cert.ReferenceIdeal.Hand

open Cert.ReferenceIdeal Cert.ReferenceIdeal.Gen
open Idealize.ShloMosaic

/-- Update `(s, k)` falls on row `b`, column `j` exactly if the place of row `s` is `b` and `k` is `j`. -/
theorem lands_iff (idx : IVec S8192x1 32) (s : Fin 8192) (k j : Fin 1024) (t b : Fin 16384)
    (ht : idx (ix2 s 0) = BitVec.ofNat 32 t.val) :
    scatter_S16384x1024_S8192x1_S8192x1024_1_0_0_1.resultIdx? (ix2 s k) idx = some (ix2 b j) ↔ t = b ∧ k = j := by
  have h0 : scatter_S16384x1024_S8192x1_S8192x1024_1_0_0_1.start (ix2 s k) idx 0 = (t.val : ℤ) := by
    rw [← StableHlo.Predicate.toInt_ofNat_small t.val (lt_trans t.isLt (by norm_num)), ← ht]
    refine congrArg (fun i => (idx i).toInt) (funext fun a => ?_)
    fin_cases a <;> rfl
  rw [Routing.resultIdx?_eq_some, Fin.forall_fin_two, h0]
  have w0 : scatter_S16384x1024_S8192x1_S8192x1024_1_0_0_1.window (ix2 s k) 0 = 0 := rfl
  have h1 : scatter_S16384x1024_S8192x1_S8192x1024_1_0_0_1.start (ix2 s k) idx 1 = 0 := rfl
  have w1 : scatter_S16384x1024_S8192x1_S8192x1024_1_0_0_1.window (ix2 s k) 1 = k.val := rfl
  rw [w0, h1, w1]
  show (t.val : ℤ) + (0 : ℕ) = (b.val : ℤ) ∧ (0 : ℤ) + (k.val : ℤ) = (j.val : ℤ) ↔ _
  rw [Fin.ext_iff, Fin.ext_iff]
  omega

/-- A row of the buffer receives the rows whose place it is. -/
theorem scatter_apply (x : Vec Ideal S16384x1024 .f32) (idx : IVec S8192x1 32) (upd : Vec Ideal S8192x1024 .f32) (t : Fin 8192 → Fin 16384)
    (ht : ∀ s, idx (ix2 s 0) = BitVec.ofNat 32 (t s).val) (b : Fin 16384) (j : Fin 1024) :
    Host.scatterAdd (F := Ideal) (φ := .f32) scatter_S16384x1024_S8192x1_S8192x1024_1_0_0_1 x idx upd (ix2 b j)
      = x (ix2 b j) + ∑ s : Fin 8192, if t s = b then upd (ix2 s j) else 0 := by
  show x (ix2 b j) + ∑ i ∈ Finset.univ.filter (fun i => scatter_S16384x1024_S8192x1_S8192x1024_1_0_0_1.resultIdx? i idx = some (ix2 b j)), upd i = _
  refine congrArg (x (ix2 b j) + ·) ?_
  rw [← Finset.sum_filter]
  refine (Finset.sum_nbij' (fun s => ix2 s j) (fun i => i 0) ?_ ?_ ?_ ?_ ?_).symm
  · intro s hs
    rw [Finset.mem_filter] at hs ⊢
    exact ⟨Finset.mem_univ _, (lands_iff idx s j j (t s) b (ht s)).2 ⟨hs.2, rfl⟩⟩
  · intro i hi
    obtain ⟨s, k, rfl⟩ : ∃ s k, i = ix2 s k := ⟨i 0, i 1, by funext a; fin_cases a <;> rfl⟩
    rw [Finset.mem_filter] at hi
    exact Finset.mem_filter.2 ⟨Finset.mem_univ s, ((lands_iff idx s k j (t s) b (ht s)).1 hi.2).1⟩
  · intro s _
    rfl
  · intro i hi
    obtain ⟨s, k, rfl⟩ : ∃ s k, i = ix2 s k := ⟨i 0, i 1, by funext a; fin_cases a <;> rfl⟩
    rw [Finset.mem_filter] at hi
    rw [((lands_iff idx s k j (t s) b (ht s)).1 hi.2).2]
    rfl
  · intro s _
    rfl

end Cert.ReferenceIdeal.Hand

end
-- ==== Proof.Reference.Output.lean ====
module

public import proofs.«01_k».proof.Proof.Reference.Indices
public import proofs.«01_k».proof.Proof.Reference.Scatter
public import Idealize.ShloMosaic.Lib.ReduceAll
public import Idealize.ShloMosaic.Lib.Routing.Ops

/-!
The reference's output: every token's row sent to the buffer and fetched back, weighted.
-/

@[expose] public section

set_option maxRecDepth 16384

noncomputable section

namespace Cert.ReferenceIdeal.Hand

open Cert.ReferenceIdeal Cert.ReferenceIdeal.Gen Cert.ReferenceIdeal.Read Cert.MoE
open Idealize.ShloMosaic

/-- The tokens' entries of one column as real numbers. -/
def column (X : Vec Ideal S8192x1024 .f32) (j : Fin 1024) (s : Fin 8192) : ℝ := EReal.toReal (X (ix2 s j))

variable {X : Vec Ideal S8192x1024 .f32} {W : Vec Ideal S16x1024 .f32}

theorem column_coe (h : Finite X W) (s : Fin 8192) (j : Fin 1024) : X (ix2 s j) = ((column X j s : ℝ) : EReal) := (h.X.coe s j).symm

theorem update0_apply (h : Finite X W) (s : Fin 8192) (j : Fin 1024) :
    val_main_v61 (F := Ideal) X W (ix2 s j) = ((ind (place0 (logit X W) s < 1024) * column X j s : ℝ) : EReal) := by
  unfold val_main_v61 val_main_v60 val_main_v59
  pointwise
  rw [valid0_apply h, column_coe h, ← EReal.coe_mul]

theorem update1_apply (h : Finite X W) (s : Fin 8192) (j : Fin 1024) :
    val_main_v81 (F := Ideal) X W (ix2 s j) = ((ind (place1 (logit X W) s < 1024) * column X j s : ℝ) : EReal) := by
  unfold val_main_v81 val_main_v80 val_main_v79
  pointwise
  rw [valid1_apply h, column_coe h, ← EReal.coe_mul]

/-- A sum of real numbers of which some are left out. -/
theorem coe_sum_if (t : Fin 8192 → Fin 16384) (b : Fin 16384) (f : Fin 8192 → ℝ) :
    ∑ s, (if t s = b then ((f s : ℝ) : EReal) else 0) = ((∑ s, if t s = b then f s else 0 : ℝ) : EReal) := by
  rw [coe_sum]
  refine Finset.sum_congr rfl fun s _ => ?_
  split
  · rfl
  · exact EReal.coe_zero.symm

/-- The buffer after the first choices. -/
theorem buffer0_apply (h : Finite X W) (b : Fin 16384) (j : Fin 1024) :
    val_main_v68 (F := Ideal) X W (ix2 b j) = ((held0 (logit X W) (column X j) b : ℝ) : EReal) := by
  unfold val_main_v68
  rw [scatter_apply _ _ _ (fun s => slot0 (logit X W) s) (send0_apply h) b j]
  unfold val_main_v48 val_main_cst_14
  pointwise
  simp only [update0_apply h]
  exact coe_sum_if _ _ _

/-- The buffer after both choices. -/
theorem buffer_apply (h : Finite X W) (b : Fin 16384) (j : Fin 1024) :
    val_main_v88 (F := Ideal) X W (ix2 b j)
      = ((held0 (logit X W) (column X j) b + held1 (logit X W) (column X j) b : ℝ) : EReal) := by
  unfold val_main_v88
  rw [scatter_apply _ _ _ (fun s => slot1 (logit X W) s) (send1_apply h) b j, buffer0_apply h, EReal.coe_add]
  refine congrArg _ ?_
  simp only [update1_apply h]
  exact coe_sum_if _ _ _

/-- Reshaped to the experts' parts and back, the buffer is itself. -/
theorem buffer_again (X : Vec Ideal S8192x1024 .f32) (W : Vec Ideal S16x1024 .f32) :
    val_main_v90 (F := Ideal) X W = val_main_v88 (F := Ideal) X W := by
  unfold val_main_v90 val_main_v89
  exact shapeCast_shapeCast _ _ _

/-- Every word that a row is fetched by lies in the buffer. -/
theorem inside_word (b : Fin 16384) :
    IntOp.andi (IntOp.cmpi .sge (BitVec.ofNat 32 b.val) 0#32) (IntOp.cmpi .sle (BitVec.ofNat 32 b.val) 16383#32) = 1#1 := by
  have hb := b.isLt
  rw [show (0#32 : BitVec 32) = BitVec.ofNat 32 0 from rfl, show (16383#32 : BitVec 32) = BitVec.ofNat 32 16383 from rfl,
    WordCmp.cmpi_sge_ofNat (by omega) (by norm_num), WordCmp.cmpi_sle_ofNat (by omega) (by norm_num), WordCmp.andi_ofBool,
    decide_eq_true (Nat.zero_le _), decide_eq_true (by omega)]
  rfl

theorem inside0 (h : Finite X W) (s : Fin 8192) : val_main_call8_v12 (F := Ideal) X W (ix1 s) = 1#1 := by
  unfold val_main_call8_v12
  refine Host.reduce_andi_one _ _ _ _ _ rfl fun i => ?_
  obtain ⟨r, z, rfl⟩ : ∃ r z, i = ix2 r z := ⟨i 0, i 1, by funext a; fin_cases a <;> rfl⟩
  obtain rfl : z = 0 := Subsingleton.elim _ _
  unfold val_main_call8_v11 val_main_call8_v10 val_main_call8_v9 val_main_call8_v8 val_main_call8_v7 val_main_call8_v6 val_main_call8_c_1
    val_main_call8_c_2
  pointwise
  rw [fetch0_apply h]
  exact inside_word _

theorem inside1 (h : Finite X W) (s : Fin 8192) : val_main_call10_v12 (F := Ideal) X W (ix1 s) = 1#1 := by
  unfold val_main_call10_v12
  refine Host.reduce_andi_one _ _ _ _ _ rfl fun i => ?_
  obtain ⟨r, z, rfl⟩ : ∃ r z, i = ix2 r z := ⟨i 0, i 1, by funext a; fin_cases a <;> rfl⟩
  obtain rfl : z = 0 := Subsingleton.elim _ _
  unfold val_main_call10_v11 val_main_call10_v10 val_main_call10_v9 val_main_call10_v8 val_main_call10_v7 val_main_call10_v6
    val_main_call10_c_1 val_main_call10_c_2
  pointwise
  rw [fetch1_apply h]
  exact inside_word _

/-- A row fetched from the buffer by a word. -/
theorem gather_apply (x : Vec Ideal S16384x1024 .f32) (idx : IVec S8192x1 32) (s : Fin 8192) (j : Fin 1024) (b : Fin 16384)
    (hb : idx (ix2 s 0) = BitVec.ofNat 32 b.val) :
    Host.gather gather_S16384x1024_S8192x1_S8192x1024_1_0_n_n_0_1_11024 x idx (ix2 s j) = x (ix2 b j) := by
  rw [ix2_eq_valueIdx, ix2_eq_valueIdx]
  exact Routing.gather_row gather_S16384x1024_S8192x1_S8192x1024_1_0_n_n_0_1_11024 rfl rfl rfl rfl rfl x idx s j b
    (by rw [← ix2_eq_valueIdx]; exact hb) (by norm_num)

theorem row0_apply (h : Finite X W) (s : Fin 8192) (j : Fin 1024) :
    val_main_v102 (F := Ideal) X W (ix2 s j)
      = ((held0 (logit X W) (column X j) (slot0 (logit X W) s) + held1 (logit X W) (column X j) (slot0 (logit X W) s) : ℝ) : EReal) := by
  unfold val_main_v102 val_main_call8_v14
  pointwise
  rw [inside0 h]
  unfold val_main_call8_v13
  rw [gather_apply _ _ s j _ (fetch0_apply h s), buffer_again, buffer_apply h]
  rfl

theorem row1_apply (h : Finite X W) (s : Fin 8192) (j : Fin 1024) :
    val_main_v118 (F := Ideal) X W (ix2 s j)
      = ((held0 (logit X W) (column X j) (slot1 (logit X W) s) + held1 (logit X W) (column X j) (slot1 (logit X W) s) : ℝ) : EReal) := by
  unfold val_main_v118 val_main_call10_v14
  pointwise
  rw [inside1 h]
  unfold val_main_call10_v13
  rw [gather_apply _ _ s j _ (fetch1_apply h s), buffer_again, buffer_apply h]
  rfl

/-- The output's entry: the token's entry, scaled. -/
theorem output_apply (h : Finite X W) (s : Fin 8192) (j : Fin 1024) :
    val_main_v123 (F := Ideal) X W (ix2 s j) = ((scale (logit X W) s : ℝ) : EReal) * X (ix2 s j) := by
  unfold val_main_v123 val_main_v122 val_main_v121 val_main_v120 val_main_v119 val_main_v107 val_main_v106 val_main_v105 val_main_v104
    val_main_v103 val_main_v91 val_main_cst_28
  pointwise
  rw [row0_apply h, row1_apply h, weight0_apply h, weight1_apply h, valid0_again h, valid1_again h, column_coe h, ← EReal.coe_mul,
    ← EReal.coe_mul, ← EReal.coe_mul, ← EReal.coe_mul, ← EReal.coe_mul, ← EReal.coe_add]
  exact congrArg _ (combine (L := logit X W) (column X j) s)

end Cert.ReferenceIdeal.Hand

end
-- ==== Proof.Reference.Result.lean ====
module

public import proofs.«01_k».proof.Proof.Reference.Output
public import proofs.«01_k».proof.Proof.Gen.ReferenceIdeal.Run

/-!
What the reference's run leaves in its two results, in terms of its two arguments.
-/

@[expose] public section

set_option maxRecDepth 16384

noncomputable section

namespace Cert.ReferenceIdeal.Hand

open Cert.ReferenceIdeal Cert.ReferenceIdeal.Gen Cert.ReferenceIdeal.Read Cert.MoE
open Idealize.ShloMosaic Idealize.SL.Sem

variable {X : Vec Ideal S8192x1024 .f32} {W : Vec Ideal S16x1024 .f32}

/-- Every token's row times the token's scale. -/
def scaled (X : Vec Ideal S8192x1024 .f32) (W : Vec Ideal S16x1024 .f32) : Vec Ideal S8192x1024 .f32 := fun i =>
  ((scale (logit X W) (i 0).val : ℝ) : EReal) * X i

theorem output_eq (h : Finite X W) : val_main_v123 (F := Ideal) X W = scaled X W := by
  funext i
  obtain ⟨s, j, rfl⟩ : ∃ s j, i = ix2 s j := ⟨i 0, i 1, by funext a; fin_cases a <;> rfl⟩
  exact output_apply h s j

theorem loss_eq (h : Finite X W) : val_main_v27 (F := Ideal) X W = fun _ => ((loss (logit X W) : ℝ) : EReal) := by
  funext i
  obtain rfl : i = ix0 := funext fun a => a.elim0
  exact loss_apply h

/-- The reference's run. -/
theorem run_value (m : (ℓ : Loc nD τ sig) → Buf (Elt Ideal) ℓ) (ρ : Dev nD → PrngReg) (X : Dev nD → Vec Ideal S8192x1024 .f32)
    (W : Dev nD → Vec Ideal S16x1024 .f32) (hX : ∀ c : Dev nD, m ((c.tc : Thread nD τ).loc main_arg0) = X c)
    (hW : ∀ c : Dev nD, m ((c.tc : Thread nD τ).loc main_arg1) = W c) (h : ∀ c, Finite (X c) (W c)) :
    θ_run defs (onTc (τ := τ) (main (F := Ideal))) ⟨m, fun _ => 0, ρ⟩ fun r => ∀ c : Dev nD,
      r.2.mem ((c.tc : Thread nD τ).loc main_v123) = scaled (X c) (W c)
      ∧ r.2.mem ((c.tc : Thread nD τ).loc main_v27) = (fun _ => ((loss (logit (X c) (W c)) : ℝ) : EReal) : Vec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r hr c => ⟨(hr c).1.trans ?_, (hr c).2.1.trans ?_, (hr c).2.2⟩) (Cert.ReferenceIdeal.Value.run m ρ)
  · refine (val_main_v123_eq _).trans ((congrArg₂ (val_main_v123 (F := Ideal)) ?_ ?_).trans (output_eq (h c)))
    · exact hX c
    · exact hW c
  · refine (val_main_v27_eq _).trans ((congrArg₂ (val_main_v27 (F := Ideal)) ?_ ?_).trans (loss_eq (h c)))
    · exact hX c
    · exact hW c

end Cert.ReferenceIdeal.Hand

end
-- ==== Proof.lean ====
/-
  The claims, assembled.
-/
module

public import proofs.«01_k».proof.Defs
public import proofs.«01_k».proof.Proof.Kernel.Frame
public import proofs.«01_k».proof.Proof.KernelIdeal.Frame
public import proofs.«01_k».proof.Proof.KernelIdeal.Arrays
public import proofs.«01_k».proof.Proof.Value.Finite
public import proofs.«01_k».proof.Proof.Reference.Result
public import Idealize.ShloMosaic.Adequacy
public import Idealize.ShloMosaic.Init
public import Idealize.ShloMosaic.Lib.Quiescent

@[expose] public section

noncomputable section

namespace Cert.Proof

open Idealize.ShloMosaic Idealize.SL.Sem

/-- The reference is one run of host operations and has no semaphores. -/
theorem quiet : Cert.quiescent_ReferenceIdeal (hReferenceIdeal := Cert.ReferenceIdeal.Gen.facts) := fun m g _ =>
  (θ_run _ _ _).mono (fun _ h => ⟨fun c => (h c).2.2, sem_eq_zero_of_no_sems rfl _⟩) (Cert.ReferenceIdeal.Value.run m g)

/-- Both programs multiply each token's row by the same scale and end with the same loss. -/
theorem equal : Cert.algebraic_KernelIdeal_ReferenceIdeal_pre_finite (hKernelIdeal := Cert.KernelIdeal.Gen.facts)
    (hReferenceIdeal := Cert.ReferenceIdeal.Gen.facts) (hPre_finite := Cert.MoE.finiteFacts) := by
  intro m g m' g' hpre hargs
  have hfin := fun c => Cert.MoE.finite_iff _ _ (hpre c)
  exact ⟨Cert.KernelIdeal.Hand.outG m, fun c _ => ((Cert.MoE.loss (Cert.KernelIdeal.Hand.logit m c) : ℝ) : EReal),
    Cert.KernelIdeal.Hand.run_value m g (fun c => (hfin c).1) (fun c => (hfin c).2),
    Cert.ReferenceIdeal.Hand.run_value m' g' (Cert.KernelIdeal.Hand.tok m) (Cert.KernelIdeal.Hand.wgt m) (fun c => (hargs c).1)
      (fun c => (hargs c).2) fun c => ⟨(hfin c).1, (hfin c).2⟩⟩

theorem claim : Cert.Claim :=
  ⟨Cert.Kernel.Gen.facts, Cert.KernelIdeal.Gen.facts, Cert.ReferenceIdeal.Gen.facts, Cert.MoE.finiteFacts,
    fun m g _ => Cert.Kernel.Hand.quiescent m g, fun m g _ => Cert.KernelIdeal.Hand.quiescent m g,
    fun m g _ => Cert.KernelIdeal.Hand.quiescent m g, quiet, fun m g _ => quiet m g trivial, trivial, equal⟩

end Cert.Proof

end
